-- ==== Defs.lean ====
def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_finite_scores [hPre_finite_scores : Cert.Pre_finite_scores.Facts] (m : (ℓ : Loc Cert.NaIdeal.nD Cert.NaIdeal.τ Cert.NaIdeal.sig) → Buf (Elt Ideal) ℓ) : Prop :=
  ∀ c : Dev Cert.NaIdeal.nD,
    (Cert.Pre_finite_scores.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))).1 = (fun _ => 1#1)
    ∧ (Cert.Pre_finite_scores.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))).2.1 = (fun _ => 1#1)
    ∧ (Cert.Pre_finite_scores.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))).2.2 = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_finite_scores [hPre_finite_scores : Cert.Pre_finite_scores.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_finite_scores.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))).1 = (fun _ => 1#1)
    ∧ (Cert.Pre_finite_scores.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))).2.1 = (fun _ => 1#1)
    ∧ (Cert.Pre_finite_scores.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaIdeal_pre_finite_scores [hNaIdeal : Cert.NaIdeal.Facts] [hPre_finite_scores : Cert.Pre_finite_scores.Facts] : Prop :=
  ∀ (m : (ℓ : Loc Cert.NaIdeal.nD Cert.NaIdeal.τ Cert.NaIdeal.sig) → Buf (Elt Ideal) ℓ) (g : Dev Cert.NaIdeal.nD → PrngReg), Pre_NaIdeal_finite_scores m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_NaRefIdeal_pre_finite_scores [hNaRefIdeal : Cert.NaRefIdeal.Facts] [hPre_finite_scores : Cert.Pre_finite_scores.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_finite_scores m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def preserves_Na_NaIdeal : Prop :=
  True

def algebraic_NaIdeal_NaRefIdeal_pre_finite_scores [hNaIdeal : Cert.NaIdeal.Facts] [hNaRefIdeal : Cert.NaRefIdeal.Facts] [hPre_finite_scores : Cert.Pre_finite_scores.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_finite_scores m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)) →
    ∃ (v0 : (c : Dev Cert.NaIdeal.nD) → Buf (Elt Ideal) ((c.tc : Thread Cert.NaIdeal.nD Cert.NaIdeal.τ).loc Cert.NaIdeal.main_v65)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v65) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v91) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v17) = v0 c
          ∧ r.2.mem ((c.tc : Thread Cert.ProjRefIdeal.nD Cert.ProjRefIdeal.τ).loc Cert.ProjRefIdeal.main_v18) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v29)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v29) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v83) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def Claim : Prop :=
  ∃ (hNa : Cert.Na.Facts) (hNaIdeal : Cert.NaIdeal.Facts) (hNaRefIdeal : Cert.NaRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPre_finite_scores : Cert.Pre_finite_scores.Facts),
    quiescent_Na (hNa := hNa)
    ∧ quiescent_NaIdeal (hNaIdeal := hNaIdeal)
    ∧ quiescent_NaIdeal_pre_finite_scores (hNaIdeal := hNaIdeal) (hPre_finite_scores := hPre_finite_scores)
    ∧ quiescent_NaRefIdeal (hNaRefIdeal := hNaRefIdeal)
    ∧ quiescent_NaRefIdeal_pre_finite_scores (hNaRefIdeal := hNaRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ preserves_Na_NaIdeal
    ∧ algebraic_NaIdeal_NaRefIdeal_pre_finite_scores (hNaIdeal := hNaIdeal) (hNaRefIdeal := hNaRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
-- ==== Pre_finite_scores.lean ====
abbrev S8x4096x1024 : Shape := ⟨3, ![8, 4096, 1024]⟩
abbrev S8x15x31 : Shape := ⟨3, ![8, 15, 31]⟩
abbrev S_ : Shape := ⟨0, ![]⟩

class Facts : Prop where
  bcast_S_S8x4096x1024 : S_.BroadcastsInDim S8x4096x1024 (![] : Fin 0 → Fin S8x4096x1024.rank)
  bcast_S_S8x15x31 : S_.BroadcastsInDim S8x15x31 (![] : Fin 0 → Fin S8x15x31.rank)

variable [Facts]

def fn {F : FTy → Type} [FloatOps F] (main_arg0 : FVec F S8x4096x1024 .f32) (main_arg1 : FVec F S8x4096x1024 .f32) (main_arg2 : FVec F S8x4096x1024 .f32) (main_arg3 : FVec F S8x15x31 .f32) : IVec S8x4096x1024 1 × IVec S8x4096x1024 1 × IVec S8x15x31 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x4096x1024 .f32 := Host.absf main_arg1
  let main_cst_0 : FVec F S_ .f32 := constant S_ .f32 0x7F800000#32
  let main_v4 : FVec F S8x4096x1024 .f32 := broadcastInDim S8x4096x1024 ![] bcast_S_S8x4096x1024 main_cst_0
  let main_v5 : IVec S8x4096x1024 1 := cmpf .olt main_v3 main_v4
  let main_v6 : FVec F S8x15x31 .f32 := Host.absf main_arg3
  let main_cst_1 : FVec F S_ .f32 := constant S_ .f32 0x7F800000#32
  let main_v7 : FVec F S8x15x31 .f32 := broadcastInDim S8x15x31 ![] bcast_S_S8x15x31 main_cst_1
  let main_v8 : IVec S8x15x31 1 := cmpf .olt main_v6 main_v7
  (main_v2, main_v5, main_v8)
-- ==== Na.lean ====
abbrev S8x4096x1024 : Shape := ⟨3, ![8, 4096, 1024]⟩
abbrev S8x15x31 : Shape := ⟨3, ![8, 15, 31]⟩
abbrev S64x64 : Shape := ⟨2, ![64, 64]⟩
abbrev S_ : Shape := ⟨0, ![]⟩
abbrev S32768x1024 : Shape := ⟨2, ![32768, 1024]⟩
abbrev S32768x3072 : Shape := ⟨2, ![32768, 3072]⟩
abbrev S32768x11264 : Shape := ⟨2, ![32768, 11264]⟩
abbrev S8x15x128 : Shape := ⟨3, ![8, 15, 128]⟩
abbrev S8x15x1x128 : Shape := ⟨4, ![8, 15, 1, 128]⟩
abbrev S8x15x64x128 : Shape := ⟨4, ![8, 15, 64, 128]⟩
abbrev S8x15x8192 : Shape := ⟨3, ![8, 15, 8192]⟩
abbrev S8x15x8128 : Shape := ⟨3, ![8, 15, 8128]⟩
abbrev S8x15x64x127 : Shape := ⟨4, ![8, 15, 64, 127]⟩
abbrev S8x15x64x64 : Shape := ⟨4, ![8, 15, 64, 64]⟩
abbrev S1x1x64x64 : Shape := ⟨4, ![1, 1, 64, 64]⟩
abbrev S8x64x15x64 : Shape := ⟨4, ![8, 64, 15, 64]⟩
abbrev S8x64x960 : Shape := ⟨3, ![8, 64, 960]⟩
abbrev S8x64x512 : Shape := ⟨3, ![8, 64, 512]⟩
abbrev S8x64x768 : Shape := ⟨3, ![8, 64, 768]⟩
abbrev S8x1x64x768 : Shape := ⟨4, ![8, 1, 64, 768]⟩
abbrev S8x4x64x768 : Shape := ⟨4, ![8, 4, 64, 768]⟩
abbrev S8x256x768 : Shape := ⟨3, ![8, 256, 768]⟩
abbrev S1x8x256x768 : Shape := ⟨4, ![1, 8, 256, 768]⟩
abbrev S3x8x256x768 : Shape := ⟨4, ![3, 8, 256, 768]⟩
abbrev S1024x256 : Shape := ⟨2, ![1024, 256]⟩
abbrev S4096x256 : Shape := ⟨2, ![4096, 256]⟩
abbrev S1x2x256x768 : Shape := ⟨4, ![1, 2, 256, 768]⟩
abbrev S256x128 : Shape := ⟨2, ![256, 128]⟩
abbrev S768x128 : Shape := ⟨2, ![768, 128]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 104
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x15x31, .f32⟩
  | .hbm, ⟨4, _⟩ => ⟨S64x64, .i1⟩
  | .hbm, ⟨5, _⟩ => ⟨S_, .f32⟩
  | .hbm, ⟨6, _⟩ => ⟨S8x4096x1024, .f32⟩
  | .hbm, ⟨7, _⟩ => ⟨S8x4096x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x3072, .f32⟩
  | .hbm, ⟨12, _⟩ => ⟨S32768x3072, .bf16⟩
  | .hbm, ⟨13, _⟩ => ⟨S_, .i32⟩
  | .hbm, ⟨14, _⟩ => ⟨S_, .bf16⟩
  | .hbm, ⟨15, _⟩ => ⟨S32768x11264, .bf16⟩
  | .hbm, ⟨16, _⟩ => ⟨S_, .i32⟩
  | .hbm, ⟨17, _⟩ => ⟨S_, .f32⟩
  | .hbm, ⟨18, _⟩ => ⟨S8x15x128, .f32⟩
  | .hbm, ⟨19, _⟩ => ⟨S8x15x1x128, .f32⟩
  | .hbm, ⟨20, _⟩ => ⟨S8x15x64x128, .f32⟩
  | .hbm, ⟨21, _⟩ => ⟨S8x15x8192, .f32⟩
  | .hbm, ⟨22, _⟩ => ⟨S8x15x8128, .f32⟩
  | .hbm, ⟨23, _⟩ => ⟨S8x15x64x127, .f32⟩
  | .hbm, ⟨24, _⟩ => ⟨S8x15x64x64, .f32⟩
  | .hbm, ⟨25, _⟩ => ⟨S1x1x64x64, .i1⟩
  | .hbm, ⟨26, _⟩ => ⟨S_, .f32⟩
  | .hbm, ⟨27, _⟩ => ⟨S_, .f32⟩
  | .hbm, ⟨28, _⟩ => ⟨S8x15x64x64, .i1⟩
  | .hbm, ⟨29, _⟩ => ⟨S8x15x64x64, .f32⟩
  | .hbm, ⟨30, _⟩ => ⟨S8x15x64x64, .f32⟩
  | .hbm, ⟨31, _⟩ => ⟨S8x64x15x64, .f32⟩
  | .hbm, ⟨32, _⟩ => ⟨S8x64x960, .f32⟩
  | .hbm, ⟨33, _⟩ => ⟨S8x64x512, .f32⟩
  | .hbm, ⟨34, _⟩ => ⟨S_, .f32⟩
  | .hbm, ⟨35, _⟩ => ⟨S_, .f32⟩
  | .hbm, ⟨36, _⟩ => ⟨S8x64x768, .f32⟩
  | .hbm, ⟨37, _⟩ => ⟨S8x64x512, .f32⟩
  | .hbm, ⟨38, _⟩ => ⟨S_, .f32⟩
  | .hbm, ⟨39, _⟩ => ⟨S_, .f32⟩
  | .hbm, ⟨40, _⟩ => ⟨S8x64x768, .f32⟩
  | .hbm, ⟨41, _⟩ => ⟨S8x64x512, .f32⟩
  | .hbm, ⟨42, _⟩ => ⟨S_, .f32⟩
  | .hbm, ⟨43, _⟩ => ⟨S_, .f32⟩
  | .hbm, ⟨44, _⟩ => ⟨S8x64x768, .f32⟩
  | .hbm, ⟨45, _⟩ => ⟨S8x64x512, .f32⟩
  | .hbm, ⟨46, _⟩ => ⟨S_, .f32⟩
  | .hbm, ⟨47, _⟩ => ⟨S_, .f32⟩
  | .hbm, ⟨48, _⟩ => ⟨S8x64x768, .f32⟩
  | .hbm, ⟨49, _⟩ => ⟨S8x1x64x768, .f32⟩
  | .hbm, ⟨50, _⟩ => ⟨S8x1x64x768, .f32⟩
  | .hbm, ⟨51, _⟩ => ⟨S8x1x64x768, .f32⟩
  | .hbm, ⟨52, _⟩ => ⟨S8x1x64x768, .f32⟩
  | .hbm, ⟨53, _⟩ => ⟨S8x4x64x768, .f32⟩
  | .hbm, ⟨54, _⟩ => ⟨S8x256x768, .f32⟩
  | .hbm, ⟨55, _⟩ => ⟨S8x64x512, .f32⟩
  | .hbm, ⟨56, _⟩ => ⟨S_, .f32⟩
  | .hbm, ⟨57, _⟩ => ⟨S_, .f32⟩
  | .hbm, ⟨58, _⟩ => ⟨S8x64x768, .f32⟩
  | .hbm, ⟨59, _⟩ => ⟨S8x64x512, .f32⟩
  | .hbm, ⟨60, _⟩ => ⟨S_, .f32⟩
  | .hbm, ⟨61, _⟩ => ⟨S_, .f32⟩
  | .hbm, ⟨62, _⟩ => ⟨S8x64x768, .f32⟩
  | .hbm, ⟨63, _⟩ => ⟨S8x64x512, .f32⟩
  | .hbm, ⟨64, _⟩ => ⟨S_, .f32⟩
  | .hbm, ⟨65, _⟩ => ⟨S_, .f32⟩
  | .hbm, ⟨66, _⟩ => ⟨S8x64x768, .f32⟩
  | .hbm, ⟨67, _⟩ => ⟨S8x64x512, .f32⟩
  | .hbm, ⟨68, _⟩ => ⟨S_, .f32⟩
  | .hbm, ⟨69, _⟩ => ⟨S_, .f32⟩
  | .hbm, ⟨70, _⟩ => ⟨S8x64x768, .f32⟩
  | .hbm, ⟨71, _⟩ => ⟨S8x1x64x768, .f32⟩
  | .hbm, ⟨72, _⟩ => ⟨S8x1x64x768, .f32⟩
  | .hbm, ⟨73, _⟩ => ⟨S8x1x64x768, .f32⟩
  | .hbm, ⟨74, _⟩ => ⟨S8x1x64x768, .f32⟩
  | .hbm, ⟨75, _⟩ => ⟨S8x4x64x768, .f32⟩
  | .hbm, ⟨76, _⟩ => ⟨S8x256x768, .f32⟩
  | .hbm, ⟨77, _⟩ => ⟨S8x64x512, .f32⟩
  | .hbm, ⟨78, _⟩ => ⟨S_, .f32⟩
  | .hbm, ⟨79, _⟩ => ⟨S_, .f32⟩
  | .hbm, ⟨80, _⟩ => ⟨S8x64x768, .f32⟩
  | .hbm, ⟨81, _⟩ => ⟨S8x64x512, .f32⟩
  | .hbm, ⟨82, _⟩ => ⟨S_, .f32⟩
  | .hbm, ⟨83, _⟩ => ⟨S_, .f32⟩
  | .hbm, ⟨84, _⟩ => ⟨S8x64x768, .f32⟩
  | .hbm, ⟨85, _⟩ => ⟨S8x64x512, .f32⟩
  | .hbm, ⟨86, _⟩ => ⟨S_, .f32⟩
  | .hbm, ⟨87, _⟩ => ⟨S_, .f32⟩
  | .hbm, ⟨88, _⟩ => ⟨S8x64x768, .f32⟩
  | .hbm, ⟨89, _⟩ => ⟨S8x64x512, .f32⟩
  | .hbm, ⟨90, _⟩ => ⟨S_, .f32⟩
  | .hbm, ⟨91, _⟩ => ⟨S_, .f32⟩
  | .hbm, ⟨92, _⟩ => ⟨S8x64x768, .f32⟩
  | .hbm, ⟨93, _⟩ => ⟨S8x1x64x768, .f32⟩
  | .hbm, ⟨94, _⟩ => ⟨S8x1x64x768, .f32⟩
  | .hbm, ⟨95, _⟩ => ⟨S8x1x64x768, .f32⟩
  | .hbm, ⟨96, _⟩ => ⟨S8x1x64x768, .f32⟩
  | .hbm, ⟨97, _⟩ => ⟨S8x4x64x768, .f32⟩
  | .hbm, ⟨98, _⟩ => ⟨S8x256x768, .f32⟩
  | .hbm, ⟨99, _⟩ => ⟨S1x8x256x768, .f32⟩
  | .hbm, ⟨100, _⟩ => ⟨S1x8x256x768, .f32⟩
  | .hbm, ⟨101, _⟩ => ⟨S1x8x256x768, .f32⟩
  | .hbm, ⟨102, _⟩ => ⟨S3x8x256x768, .f32⟩
  | .hbm, ⟨103, _⟩ => ⟨S32768x1024, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x2x256x768, .f32⟩
  | .local _ .vmem, ⟨7, _⟩ => ⟨S1x2x256x768, .f32⟩
  | .local _ .vmem, ⟨8, _⟩ => ⟨S1x2x256x768, .f32⟩
  | .local _ .vmem, ⟨9, _⟩ => ⟨S1x2x256x768, .f32⟩
  | .local _ .vmem, ⟨10, _⟩ => ⟨S1x2x256x768, .f32⟩
  | .local _ .vmem, ⟨11, _⟩ => ⟨S1x2x256x768, .f32⟩
  | .local _ .vmem, ⟨12, _⟩ => ⟨S1024x256, .bf16⟩
  | .local _ .vmem, ⟨13, _⟩ => ⟨S1024x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call0_v0 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call3_v0 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_call4_v0 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_call5_v0 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_call6_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_call7_v0 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_call8_v0 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_call9_v0 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_call10_v0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_call11_v0 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_call12_v0 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_call13_v0 : Ref sig .tc := ⟨.hbm, 87, rfl⟩
abbrev main_v52 : Ref sig .tc := ⟨.hbm, 88, rfl⟩
abbrev main_v53 : Ref sig .tc := ⟨.hbm, 89, rfl⟩
abbrev main_cst_14 : Ref sig .tc := ⟨.hbm, 90, rfl⟩
abbrev main_call14_v0 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let c52_i32 : BitVec 32 := 52#32
  let c0_i32_2 : BitVec 32 := 0#32
  let c4_i32_0 : BitVec 32 := 4#32
  let c4_i32 : BitVec 32 := 4#32
  let arg2 : BitVec 32 := BitVec.ofNat 32 (i 2).val
  let v0 : BitVec 32 := Scalar.muli c4_i32 arg2
  let c0_i32 : BitVec 32 := 0#32
  let v1 : BitVec 32 := Scalar.addi v0 c0_i32
  let v2 : BitVec 32 := Scalar.muli c4_i32_0 v1
  let c4_i32_1 : BitVec 32 := 4#32
  let v3 : BitVec 32 := Scalar.subi v2 c4_i32_1
  let v4 : BitVec 32 := Scalar.maxsi c0_i32_2 v3
  let v5 : BitVec 32 := Scalar.minsi c52_i32 v4
  let c64_i32 : BitVec 32 := 64#32
  let v6 : BitVec 32 := Scalar.muli v5 c64_i32
  v6
def k0_mult2 (i : grid0.Coords) : BitVec 32 :=
  let c52_i32_7 : BitVec 32 := 52#32
  let c0_i32_6 : BitVec 32 := 0#32
  let c4_i32_4 : BitVec 32 := 4#32
  let c4_i32_3 : BitVec 32 := 4#32
  let arg2 : BitVec 32 := BitVec.ofNat 32 (i 2).val
  let v8 : BitVec 32 := Scalar.muli c4_i32_3 arg2
  let c1_i32 : BitVec 32 := 1#32
  let v9 : BitVec 32 := Scalar.addi v8 c1_i32
  let v10 : BitVec 32 := Scalar.muli c4_i32_4 v9
  let c4_i32_5 : BitVec 32 := 4#32
  let v11 : BitVec 32 := Scalar.subi v10 c4_i32_5
  let v12 : BitVec 32 := Scalar.maxsi c0_i32_6 v11
  let v13 : BitVec 32 := Scalar.minsi c52_i32_7 v12
  let c64_i32_8 : BitVec 32 := 64#32
  let v14 : BitVec 32 := Scalar.muli v13 c64_i32_8
  v14
def k0_mult3 (i : grid0.Coords) : BitVec 32 :=
  let c52_i32_13 : BitVec 32 := 52#32
  let c0_i32_12 : BitVec 32 := 0#32
  let c4_i32_10 : BitVec 32 := 4#32
  let c4_i32_9 : BitVec 32 := 4#32
  let arg2 : BitVec 32 := BitVec.ofNat 32 (i 2).val
  let v16 : BitVec 32 := Scalar.muli c4_i32_9 arg2
  let c2_i32 : BitVec 32 := 2#32
  let v17 : BitVec 32 := Scalar.addi v16 c2_i32
  let v18 : BitVec 32 := Scalar.muli c4_i32_10 v17
  let c4_i32_11 : BitVec 32 := 4#32
  let v19 : BitVec 32 := Scalar.subi v18 c4_i32_11
  let v20 : BitVec 32 := Scalar.maxsi c0_i32_12 v19
  let v21 : BitVec 32 := Scalar.minsi c52_i32_13 v20
  let c64_i32_14 : BitVec 32 := 64#32
  let v22 : BitVec 32 := Scalar.muli v21 c64_i32_14
  v22
def k0_mult4 (i : grid0.Coords) : BitVec 32 :=
  let c52_i32_19 : BitVec 32 := 52#32
  let c0_i32_18 : BitVec 32 := 0#32
  let c4_i32_16 : BitVec 32 := 4#32
  let c4_i32_15 : BitVec 32 := 4#32
  let arg2 : BitVec 32 := BitVec.ofNat 32 (i 2).val
  let v24 : BitVec 32 := Scalar.muli c4_i32_15 arg2
  let c3_i32 : BitVec 32 := 3#32
  let v25 : BitVec 32 := Scalar.addi v24 c3_i32
  let v26 : BitVec 32 := Scalar.muli c4_i32_16 v25
  let c4_i32_17 : BitVec 32 := 4#32
  let v27 : BitVec 32 := Scalar.subi v26 c4_i32_17
  let v28 : BitVec 32 := Scalar.maxsi c0_i32_18 v27
  let v29 : BitVec 32 := Scalar.minsi c52_i32_19 v28
  let c64_i32_20 : BitVec 32 := 64#32
  let v30 : BitVec 32 := Scalar.muli v29 c64_i32_20
  v30
def k0_off1 (i : grid0.Coords) (c0_i32 : BitVec 32) : Fin 2 → Nat :=
  let c52_i32 : BitVec 32 := 52#32
  let c0_i32_2 : BitVec 32 := 0#32
  let c4_i32_0 : BitVec 32 := 4#32
  let c4_i32 : BitVec 32 := 4#32
  let arg2 : BitVec 32 := BitVec.ofNat 32 (i 2).val
  let v0 : BitVec 32 := Scalar.muli c4_i32 arg2
  let v1 : BitVec 32 := Scalar.addi v0 c0_i32
  let v2 : BitVec 32 := Scalar.muli c4_i32_0 v1
  let c4_i32_1 : BitVec 32 := 4#32
  let v3 : BitVec 32 := Scalar.subi v2 c4_i32_1
  let v4 : BitVec 32 := Scalar.maxsi c0_i32_2 v3
  let v5 : BitVec 32 := Scalar.minsi c52_i32 v4
  let c64_i32 : BitVec 32 := 64#32
  let v6 : BitVec 32 := Scalar.muli v5 c64_i32
  let v7 : BitVec 32 := v6
  let v34 : Index := Scalar.indexCast v7
  let c0_22 : Index := 0#32
  ![v34.toNat, 0]
def k0_off2 (i : grid0.Coords) (c0_i32 : BitVec 32) : Fin 2 → Nat :=
  let c52_i32 : BitVec 32 := 52#32
  let c0_i32_2 : BitVec 32 := 0#32
  let c4_i32_0 : BitVec 32 := 4#32
  let c4_i32 : BitVec 32 := 4#32
  let arg2 : BitVec 32 := BitVec.ofNat 32 (i 2).val
  let v0 : BitVec 32 := Scalar.muli c4_i32 arg2
  let v1 : BitVec 32 := Scalar.addi v0 c0_i32
  let v2 : BitVec 32 := Scalar.muli c4_i32_0 v1
  let c4_i32_1 : BitVec 32 := 4#32
  let v3 : BitVec 32 := Scalar.subi v2 c4_i32_1
  let v4 : BitVec 32 := Scalar.maxsi c0_i32_2 v3
  let v5 : BitVec 32 := Scalar.minsi c52_i32 v4
  let c64_i32 : BitVec 32 := 64#32
  let v6 : BitVec 32 := Scalar.muli v5 c64_i32
  let v7 : BitVec 32 := v6
  let v43 : Index := Scalar.indexCast v7
  let c128_28 : Index := 128#32
  ![v43.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, arg1.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg2 c3_i32
  let c2_i32 : BitVec 32 := 2#32
  let c1_i32 : BitVec 32 := 1#32
  let v1 : BitVec 32 := Scalar.select v0 c2_i32 c1_i32
  let c0_i32 : BitVec 32 := 0#32
  let c0_i32_0 : BitVec 32 := 0#32
  let c0_i32_1 : BitVec 32 := 0#32
  ![v1.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x2x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x2x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== NaRefIdeal.lean ====
abbrev S8x4096x1024 : Shape := ⟨3, ![8, 4096, 1024]⟩
abbrev S8x15x31 : Shape := ⟨3, ![8, 15, 31]⟩
abbrev S8x4096x8x128 : Shape := ⟨4, ![8, 4096, 8, 128]⟩
abbrev S_ : Shape := ⟨0, ![]⟩
abbrev S8x8x4096x4096 : Shape := ⟨4, ![8, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x2 : Shape := ⟨3, ![4096, 4096, 2]⟩
abbrev S8x4096x4096 : Shape := ⟨3, ![8, 4096, 4096]⟩
abbrev S1x1x4096x4096 : Shape := ⟨4, ![1, 1, 4096, 4096]⟩
abbrev S1x8x4096x4096 : Shape := ⟨4, ![1, 8, 4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S32768x1024 : Shape := ⟨2, ![32768, 1024]⟩

abbrev nBuf : Space → Nat
  | .hbm => 180
  | .vmem => 0
  | .smem => 0
  | _ => 0

abbrev hbmTy0_0 (i : Nat) : BufTy := match i % 128 with
  | 0 => ⟨S8x4096x1024, .f32⟩
  | 1 => ⟨S8x4096x1024, .f32⟩
  | 2 => ⟨S8x4096x1024, .f32⟩
  | 3 => ⟨S8x15x31, .f32⟩
  | 4 => ⟨S8x4096x8x128, .f32⟩
  | 5 => ⟨S_, .f32⟩
  | 6 => ⟨S8x4096x8x128, .f32⟩
  | 7 => ⟨S8x4096x8x128, .f32⟩
  | 8 => ⟨S8x4096x8x128, .f32⟩
  | 9 => ⟨S8x4096x8x128, .f32⟩
  | 10 => ⟨S8x8x4096x4096, .f32⟩
  | 11 => ⟨S4096, .i32⟩
  | 12 => ⟨S_, .i32⟩
  | 13 => ⟨S_, .i32⟩
  | 14 => ⟨S4096, .i32⟩
  | 15 => ⟨S4096, .i32⟩
  | 16 => ⟨S4096, .i32⟩
  | 17 => ⟨S_, .i32⟩
  | 18 => ⟨S4096, .i32⟩
  | 19 => ⟨S4096, .i1⟩
  | 20 => ⟨S4096, .i32⟩
  | 21 => ⟨S4096, .i32⟩
  | 22 => ⟨S_, .i32⟩
  | 23 => ⟨S4096, .i32⟩
  | 24 => ⟨S4096, .i1⟩
  | 25 => ⟨S4096, .i1⟩
  | 26 => ⟨S_, .i32⟩
  | 27 => ⟨S4096, .i32⟩
  | 28 => ⟨S4096, .i32⟩
  | 29 => ⟨S4096, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i1⟩
  | 44 => ⟨S_, .i32⟩
  | 45 => ⟨S_, .i1⟩
  | 46 => ⟨S4096, .i1⟩
  | 47 => ⟨S4096, .i1⟩
  | 48 => ⟨S4096, .i1⟩
  | 49 => ⟨S4096, .i32⟩
  | 50 => ⟨S4096, .i32⟩
  | 51 => ⟨S4096, .i32⟩
  | 52 => ⟨S_, .i32⟩
  | 53 => ⟨S4096, .i32⟩
  | 54 => ⟨S4096, .i32⟩
  | 55 => ⟨S_, .i32⟩
  | 56 => ⟨S_, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S_, .i32⟩
  | 67 => ⟨S_, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S1x4096, .i32⟩
  | 75 => ⟨S4096x1, .i32⟩
  | 76 => ⟨S4096x4096, .i32⟩
  | 77 => ⟨S4096x4096, .i32⟩
  | 78 => ⟨S4096x4096, .i1⟩
  | 79 => ⟨S1x4096, .i32⟩
  | 80 => ⟨S4096x1, .i32⟩
  | 81 => ⟨S_, .i32⟩
  | 82 => ⟨S4096x1, .i32⟩
  | 83 => ⟨S4096x1, .i32⟩
  | 84 => ⟨S4096x4096, .i32⟩
  | 85 => ⟨S4096x4096, .i32⟩
  | 86 => ⟨S4096x4096, .i1⟩
  | 87 => ⟨S4096x4096, .i1⟩
  | 88 => ⟨S1x4096, .i32⟩
  | 89 => ⟨S4096x1, .i32⟩
  | 90 => ⟨S4096x4096, .i32⟩
  | 91 => ⟨S4096x4096, .i32⟩
  | 92 => ⟨S4096x4096, .i1⟩
  | 93 => ⟨S1x4096, .i32⟩
  | 94 => ⟨S4096x1, .i32⟩
  | 95 => ⟨S_, .i32⟩
  | 96 => ⟨S4096x1, .i32⟩
  | 97 => ⟨S4096x1, .i32⟩
  | 98 => ⟨S4096x4096, .i32⟩
  | 99 => ⟨S4096x4096, .i32⟩
  | 100 => ⟨S4096x4096, .i1⟩
  | 101 => ⟨S4096x4096, .i1⟩
  | 102 => ⟨S1x4096, .i32⟩
  | 103 => ⟨S4096x1, .i32⟩
  | 104 => ⟨S4096x4096, .i32⟩
  | 105 => ⟨S4096x4096, .i32⟩
  | 106 => ⟨S4096x4096, .i32⟩
  | 107 => ⟨S_, .i32⟩
  | 108 => ⟨S4096x4096, .i32⟩
  | 109 => ⟨S4096x4096, .i32⟩
  | 110 => ⟨S_, .i32⟩
  | 111 => ⟨S_, .i32⟩
  | 112 => ⟨S_, .i32⟩
  | 113 => ⟨S4096x4096, .i32⟩
  | 114 => ⟨S4096x4096, .i32⟩
  | 115 => ⟨S_, .i32⟩
  | 116 => ⟨S4096x4096, .i32⟩
  | 117 => ⟨S4096x4096, .i32⟩
  | 118 => ⟨S1x4096, .i32⟩
  | 119 => ⟨S4096x1, .i32⟩
  | 120 => ⟨S4096x4096, .i32⟩
  | 121 => ⟨S4096x4096, .i32⟩
  | 122 => ⟨S4096x4096, .i32⟩
  | 123 => ⟨S_, .i32⟩
  | 124 => ⟨S4096x4096, .i32⟩
  | 125 => ⟨S4096x4096, .i32⟩
  | 126 => ⟨S_, .i32⟩
  | 127 => ⟨S_, .i32⟩
  | _ => ⟨S8x4096x1024, .f32⟩

abbrev hbmTy0_1 (i : Nat) : BufTy := match i % 128 with
  | 0 => ⟨S_, .i32⟩
  | 1 => ⟨S4096x4096, .i32⟩
  | 2 => ⟨S4096x4096, .i32⟩
  | 3 => ⟨S_, .i32⟩
  | 4 => ⟨S4096x4096, .i32⟩
  | 5 => ⟨S4096x4096, .i32⟩
  | 6 => ⟨S_, .i32⟩
  | 7 => ⟨S4096x4096, .i32⟩
  | 8 => ⟨S4096x4096, .i1⟩
  | 9 => ⟨S_, .i32⟩
  | 10 => ⟨S4096x4096, .i32⟩
  | 11 => ⟨S4096x4096, .i32⟩
  | 12 => ⟨S4096x4096, .i32⟩
  | 13 => ⟨S_, .i32⟩
  | 14 => ⟨S4096x4096, .i32⟩
  | 15 => ⟨S4096x4096, .i1⟩
  | 16 => ⟨S_, .i32⟩
  | 17 => ⟨S4096x4096, .i32⟩
  | 18 => ⟨S4096x4096, .i32⟩
  | 19 => ⟨S4096x4096, .i32⟩
  | 20 => ⟨S4096x4096x1, .i32⟩
  | 21 => ⟨S4096x4096x1, .i32⟩
  | 22 => ⟨S4096x4096x2, .i32⟩
  | 23 => ⟨S8x4096x4096, .f32⟩
  | 24 => ⟨S4096x4096, .i1⟩
  | 25 => ⟨S1x1x4096x4096, .i1⟩
  | 26 => ⟨S1x8x4096x4096, .f32⟩
  | 27 => ⟨S8x8x4096x4096, .f32⟩
  | 28 => ⟨S8x8x4096x4096, .f32⟩
  | 29 => ⟨S_, .f32⟩
  | 30 => ⟨S_, .f32⟩
  | 31 => ⟨S8x8x4096x4096, .i1⟩
  | 32 => ⟨S8x8x4096x4096, .f32⟩
  | 33 => ⟨S8x8x4096x4096, .f32⟩
  | 34 => ⟨S_, .f32⟩
  | 35 => ⟨S8x8x4096, .f32⟩
  | 36 => ⟨S_, .f32⟩
  | 37 => ⟨S8x8x4096, .f32⟩
  | 38 => ⟨S8x8x4096, .f32⟩
  | 39 => ⟨S8x8x4096x1, .f32⟩
  | 40 => ⟨S8x8x4096x4096, .f32⟩
  | 41 => ⟨S8x8x4096x4096, .f32⟩
  | 42 => ⟨S8x8x4096x4096, .f32⟩
  | 43 => ⟨S_, .f32⟩
  | 44 => ⟨S8x8x4096, .f32⟩
  | 45 => ⟨S8x8x4096x1, .f32⟩
  | 46 => ⟨S8x8x4096x4096, .f32⟩
  | 47 => ⟨S8x8x4096x4096, .f32⟩
  | 48 => ⟨S8x8x128x4096, .f32⟩
  | 49 => ⟨S8x4096x8x128, .f32⟩
  | 50 => ⟨S32768x1024, .f32⟩
  | 51 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v8 : Ref sig .tc := ⟨.hbm, 51, rfl⟩
abbrev main_c_1 : Ref sig .tc := ⟨.hbm, 52, rfl⟩
abbrev main_v9 : Ref sig .tc := ⟨.hbm, 53, rfl⟩
abbrev main_v10 : Ref sig .tc := ⟨.hbm, 54, rfl⟩
abbrev main_c_2 : Ref sig .tc := ⟨.hbm, 55, rfl⟩
abbrev main_c_3 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v11 : Ref sig .tc := ⟨.hbm, 62, rfl⟩
abbrev main_c_4 : Ref sig .tc := ⟨.hbm, 63, rfl⟩
abbrev main_v12 : Ref sig .tc := ⟨.hbm, 64, rfl⟩
abbrev main_v13 : Ref sig .tc := ⟨.hbm, 65, rfl⟩
abbrev main_c_5 : Ref sig .tc := ⟨.hbm, 66, rfl⟩
abbrev main_c_6 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_c_7 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_c_8 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_c_9 : Ref sig .tc := ⟨.hbm, 107, rfl⟩
abbrev main_v46 : Ref sig .tc := ⟨.hbm, 108, rfl⟩
abbrev main_v47 : Ref sig .tc := ⟨.hbm, 109, rfl⟩
abbrev main_c_10 : Ref sig .tc := ⟨.hbm, 110, rfl⟩
abbrev main_c_11 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_c_12 : Ref sig .tc := ⟨.hbm, 123, rfl⟩
abbrev main_v54 : Ref sig .tc := ⟨.hbm, 124, rfl⟩
abbrev main_v55 : Ref sig .tc := ⟨.hbm, 125, rfl⟩
abbrev main_c_13 : Ref sig .tc := ⟨.hbm, 126, rfl⟩
abbrev main_c_14 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v56 : Ref sig .tc := ⟨.hbm, 133, rfl⟩
abbrev main_c_15 : Ref sig .tc := ⟨.hbm, 134, rfl⟩
abbrev main_v57 : Ref sig .tc := ⟨.hbm, 135, rfl⟩
abbrev main_v58 : Ref sig .tc := ⟨.hbm, 136, rfl⟩
abbrev main_c_16 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_c_17 : Ref sig .tc := ⟨.hbm, 141, rfl⟩
abbrev main_v62 : Ref sig .tc := ⟨.hbm, 142, rfl⟩
abbrev main_v63 : Ref sig .tc := ⟨.hbm, 143, rfl⟩
abbrev main_c_18 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_cst_19 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v76 : Ref sig .tc := ⟨.hbm, 161, rfl⟩
abbrev main_cst_20 : Ref sig .tc := ⟨.hbm, 162, rfl⟩
abbrev main_v77 : Ref sig .tc := ⟨.hbm, 163, rfl⟩
abbrev main_cst_21 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_cst_22 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩

abbrev nD : Nat := 1
abbrev τ : Topo := Topo.v7x

variable {F : FTy → Type} [FloatOps F]
-- ==== Ffn.lean ====
abbrev S8x4096x2048 : Shape := ⟨3, ![8, 4096, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S32768x2048 : Shape := ⟨2, ![32768, 2048]⟩
abbrev S2048x11264 : Shape := ⟨2, ![2048, 11264]⟩
abbrev S5632x2048 : Shape := ⟨2, ![5632, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S512x512 : Shape := ⟨2, ![512, 512]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S8x4096x2048, .f32⟩
  | .hbm, ⟨1, _⟩ => ⟨S1x2048x11264, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S32768x2048, .f32⟩
  | .hbm, ⟨6, _⟩ => ⟨S2048x11264, .f32⟩
  | .hbm, ⟨7, _⟩ => ⟨S2048x11264, .bf16⟩
  | .hbm, ⟨8, _⟩ => ⟨S5632x2048, .f32⟩
  | .hbm, ⟨9, _⟩ => ⟨S5632x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8x4096x2048 : Shape := ⟨3, ![8, 4096, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S_ : Shape := ⟨0, ![]⟩
abbrev S2048x11264 : Shape := ⟨2, ![2048, 11264]⟩
abbrev S5632x2048 : Shape := ⟨2, ![5632, 2048]⟩
abbrev S8x4096x11264 : Shape := ⟨3, ![8, 4096, 11264]⟩
abbrev S8x4096x5632 : Shape := ⟨3, ![8, 4096, 5632]⟩
abbrev S2048 : Shape := ⟨1, ![2048]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x2048x11264, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8x4096x2048, .f32⟩
  | .hbm, ⟨7, _⟩ => ⟨S8x4096x2048, .f32⟩
  | .hbm, ⟨8, _⟩ => ⟨S2048x11264, .f32⟩
  | .hbm, ⟨9, _⟩ => ⟨S5632x2048, .f32⟩
  | .hbm, ⟨10, _⟩ => ⟨S8x4096x11264, .f32⟩
  | .hbm, ⟨11, _⟩ => ⟨S8x4096x5632, .f32⟩
  | .hbm, ⟨12, _⟩ => ⟨S8x4096x5632, .f32⟩
  | .hbm, ⟨13, _⟩ => ⟨S8x4096x5632, .f32⟩
  | .hbm, ⟨14, _⟩ => ⟨S8x4096x5632, .f32⟩
  | .hbm, ⟨15, _⟩ => ⟨S_, .f32⟩
  | .hbm, ⟨16, _⟩ => ⟨S8x4096x5632, .f32⟩
  | .hbm, ⟨17, _⟩ => ⟨S8x4096x5632, .f32⟩
  | .hbm, ⟨18, _⟩ => ⟨S_, .f32⟩
  | .hbm, ⟨19, _⟩ => ⟨S8x4096x5632, .f32⟩
  | .hbm, ⟨20, _⟩ => ⟨S8x4096x5632, .f32⟩
  | .hbm, ⟨21, _⟩ => ⟨S8x4096x5632, .f32⟩
  | .hbm, ⟨22, _⟩ => ⟨S8x4096x5632, .f32⟩
  | .hbm, ⟨23, _⟩ => ⟨S8x4096x2048, .f32⟩
  | .hbm, ⟨24, _⟩ => ⟨S_, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x2048, .f32⟩
  | .hbm, ⟨37, _⟩ => ⟨S8x4096x2048, .f32⟩
  | .hbm, ⟨38, _⟩ => ⟨S8x4096x2048, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x2048, .f32⟩
  | .hbm, ⟨46, _⟩ => ⟨S8x4096x2048, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x2048, .f32⟩
  | .hbm, ⟨52, _⟩ => ⟨S8x4096x2048, .f32⟩
  | .hbm, ⟨53, _⟩ => ⟨S1x1x2048, .f32⟩
  | .hbm, ⟨54, _⟩ => ⟨S8x4096x2048, .f32⟩
  | .hbm, ⟨55, _⟩ => ⟨S8x4096x2048, .f32⟩
  | .hbm, ⟨56, _⟩ => ⟨S1x1x2048, .f32⟩
  | .hbm, ⟨57, _⟩ => ⟨S8x4096x2048, .f32⟩
  | .hbm, ⟨58, _⟩ => ⟨S8x4096x2048, .f32⟩
  | .hbm, ⟨59, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Proj.lean ====
abbrev S8x4096x2048 : Shape := ⟨3, ![8, 4096, 2048]⟩
abbrev S1x2048x11280 : Shape := ⟨3, ![1, 2048, 11280]⟩
abbrev S2048x11280 : Shape := ⟨2, ![2048, 11280]⟩
abbrev S2048x1024 : Shape := ⟨2, ![2048, 1024]⟩
abbrev S2048x2048 : Shape := ⟨2, ![2048, 2048]⟩
abbrev S2048x16 : Shape := ⟨2, ![2048, 16]⟩
abbrev S2048x11264 : Shape := ⟨2, ![2048, 11264]⟩
abbrev S_ : Shape := ⟨0, ![]⟩
abbrev S2048x128 : Shape := ⟨2, ![2048, 128]⟩
abbrev S32768x2048 : Shape := ⟨2, ![32768, 2048]⟩
abbrev S32768x11264 : Shape := ⟨2, ![32768, 11264]⟩
abbrev S32768x128 : Shape := ⟨2, ![32768, 128]⟩
abbrev S1024x2048 : Shape := ⟨2, ![1024, 2048]⟩
abbrev S1024x1024 : Shape := ⟨2, ![1024, 1024]⟩
abbrev S1024x128 : Shape := ⟨2, ![1024, 128]⟩

abbrev nBuf : Space → Nat
  | .hbm => 20
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S1x2048x11280, .f32⟩
  | .hbm, ⟨2, _⟩ => ⟨S2048x11280, .f32⟩
  | .hbm, ⟨3, _⟩ => ⟨S2048x11280, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x2048, .bf16⟩
  | .hbm, ⟨8, _⟩ => ⟨S2048x1024, .bf16⟩
  | .hbm, ⟨9, _⟩ => ⟨S2048x1024, .bf16⟩
  | .hbm, ⟨10, _⟩ => ⟨S2048x16, .bf16⟩
  | .hbm, ⟨11, _⟩ => ⟨S2048x2048, .bf16⟩
  | .hbm, ⟨12, _⟩ => ⟨S2048x2048, .bf16⟩
  | .hbm, ⟨13, _⟩ => ⟨S2048x11264, .bf16⟩
  | .hbm, ⟨14, _⟩ => ⟨S_, .i32⟩
  | .hbm, ⟨15, _⟩ => ⟨S_, .bf16⟩
  | .hbm, ⟨16, _⟩ => ⟨S2048x128, .bf16⟩
  | .hbm, ⟨17, _⟩ => ⟨S32768x2048, .f32⟩
  | .hbm, ⟨18, _⟩ => ⟨S32768x11264, .bf16⟩
  | .hbm, ⟨19, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .f32⟩
  | .local _ .vmem, ⟨8, _⟩ => ⟨S1024x128, .f32⟩
  | .local _ .vmem, ⟨9, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjRefIdeal.lean ====
abbrev S8x4096x2048 : Shape := ⟨3, ![8, 4096, 2048]⟩
abbrev S1x2048x11280 : Shape := ⟨3, ![1, 2048, 11280]⟩
abbrev S2048x11280 : Shape := ⟨2, ![2048, 11280]⟩
abbrev S8x4096x11280 : Shape := ⟨3, ![8, 4096, 11280]⟩
abbrev S8x4096x1024 : Shape := ⟨3, ![8, 4096, 1024]⟩
abbrev S8x4096x16 : Shape := ⟨3, ![8, 4096, 16]⟩
abbrev S_ : Shape := ⟨0, ![]⟩
abbrev S8x4096x11264 : Shape := ⟨3, ![8, 4096, 11264]⟩
abbrev S8x4096x112 : Shape := ⟨3, ![8, 4096, 112]⟩
abbrev S8x4096x128 : Shape := ⟨3, ![8, 4096, 128]⟩
abbrev S32768x11264 : Shape := ⟨2, ![32768, 11264]⟩
abbrev S32768x128 : Shape := ⟨2, ![32768, 128]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x2048x11280, .f32⟩
  | .hbm, ⟨2, _⟩ => ⟨S2048x11280, .f32⟩
  | .hbm, ⟨3, _⟩ => ⟨S8x4096x11280, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x2048, .f32⟩
  | .hbm, ⟨8, _⟩ => ⟨S8x4096x1024, .f32⟩
  | .hbm, ⟨9, _⟩ => ⟨S8x4096x1024, .f32⟩
  | .hbm, ⟨10, _⟩ => ⟨S8x4096x16, .f32⟩
  | .hbm, ⟨11, _⟩ => ⟨S8x4096x2048, .f32⟩
  | .hbm, ⟨12, _⟩ => ⟨S8x4096x2048, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S8x4096x11264, .f32⟩
  | .hbm, ⟨17, _⟩ => ⟨S_, .f32⟩
  | .hbm, ⟨18, _⟩ => ⟨S8x4096x112, .f32⟩
  | .hbm, ⟨19, _⟩ => ⟨S8x4096x128, .f32⟩
  | .hbm, ⟨20, _⟩ => ⟨S32768x11264, .f32⟩
  | .hbm, ⟨21, _⟩ => ⟨S32768x11264, .bf16⟩
  | .hbm, ⟨22, _⟩ => ⟨S32768x128, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Merge.lean ====
abbrev S8x4096x2048 : Shape := ⟨3, ![8, 4096, 2048]⟩
abbrev S8x4x4096x256 : Shape := ⟨4, ![8, 4, 4096, 256]⟩
abbrev S8x4096x1024 : Shape := ⟨3, ![8, 4096, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S32768x2048 : Shape := ⟨2, ![32768, 2048]⟩
abbrev S_ : Shape := ⟨0, ![]⟩
abbrev S32768x6144 : Shape := ⟨2, ![32768, 6144]⟩
abbrev S32768x1024 : Shape := ⟨2, ![32768, 1024]⟩
abbrev S32768x11264 : Shape := ⟨2, ![32768, 11264]⟩
abbrev S8x4096x4x256 : Shape := ⟨4, ![8, 4096, 4, 256]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S512x2048 : Shape := ⟨2, ![512, 2048]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 44
  | .vmem => 22
  | .smem => 0
  | _ => 0

abbrev bufTy : (tb : Table) → Fin (tcTables nBuf tb) → BufTy
  | .hbm, ⟨0, _⟩ => ⟨S8x4096x2048, .f32⟩
  | .hbm, ⟨1, _⟩ => ⟨S8x4x4096x256, .f32⟩
  | .hbm, ⟨2, _⟩ => ⟨S8x4x4096x256, .f32⟩
  | .hbm, ⟨3, _⟩ => ⟨S8x4096x1024, .f32⟩
  | .hbm, ⟨4, _⟩ => ⟨S8x4096x1024, .f32⟩
  | .hbm, ⟨5, _⟩ => ⟨S8x4096x2048, .f32⟩
  | .hbm, ⟨6, _⟩ => ⟨S8x4096x2048, .f32⟩
  | .hbm, ⟨7, _⟩ => ⟨S1x1024, .f32⟩
  | .hbm, ⟨8, _⟩ => ⟨S1x1024x2048, .f32⟩
  | .hbm, ⟨9, _⟩ => ⟨S1x1024x2048, .f32⟩
  | .hbm, ⟨10, _⟩ => ⟨S1x2048x2048, .f32⟩
  | .hbm, ⟨11, _⟩ => ⟨S1x2048, .f32⟩
  | .hbm, ⟨12, _⟩ => ⟨S1x2048, .f32⟩
  | .hbm, ⟨13, _⟩ => ⟨S32768x2048, .f32⟩
  | .hbm, ⟨14, _⟩ => ⟨S32768x2048, .bf16⟩
  | .hbm, ⟨15, _⟩ => ⟨S32768x2048, .f32⟩
  | .hbm, ⟨16, _⟩ => ⟨S32768x2048, .bf16⟩
  | .hbm, ⟨17, _⟩ => ⟨S_, .bf16⟩
  | .hbm, ⟨18, _⟩ => ⟨S32768x6144, .bf16⟩
  | .hbm, ⟨19, _⟩ => ⟨S32768x1024, .f32⟩
  | .hbm, ⟨20, _⟩ => ⟨S32768x1024, .bf16⟩
  | .hbm, ⟨21, _⟩ => ⟨S32768x11264, .bf16⟩
  | .hbm, ⟨22, _⟩ => ⟨S32768x2048, .f32⟩
  | .hbm, ⟨23, _⟩ => ⟨S8x4096x4x256, .f32⟩
  | .hbm, ⟨24, _⟩ => ⟨S32768x1024, .f32⟩
  | .hbm, ⟨25, _⟩ => ⟨S32768x1024, .bf16⟩
  | .hbm, ⟨26, _⟩ => ⟨S8x4096x4x256, .f32⟩
  | .hbm, ⟨27, _⟩ => ⟨S32768x1024, .f32⟩
  | .hbm, ⟨28, _⟩ => ⟨S32768x1024, .bf16⟩
  | .hbm, ⟨29, _⟩ => ⟨S32768x1024, .f32⟩
  | .hbm, ⟨30, _⟩ => ⟨S32768x1024, .bf16⟩
  | .hbm, ⟨31, _⟩ => ⟨S1024, .f32⟩
  | .hbm, ⟨32, _⟩ => ⟨S1x1024, .f32⟩
  | .hbm, ⟨33, _⟩ => ⟨S1024x2048, .f32⟩
  | .hbm, ⟨34, _⟩ => ⟨S1024x2048, .bf16⟩
  | .hbm, ⟨35, _⟩ => ⟨S1024x2048, .f32⟩
  | .hbm, ⟨36, _⟩ => ⟨S1024x2048, .bf16⟩
  | .hbm, ⟨37, _⟩ => ⟨S2048x2048, .f32⟩
  | .hbm, ⟨38, _⟩ => ⟨S2048x2048, .bf16⟩
  | .hbm, ⟨39, _⟩ => ⟨S2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S1x1024, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S8x4096x2048 : Shape := ⟨3, ![8, 4096, 2048]⟩
abbrev S8x4x4096x256 : Shape := ⟨4, ![8, 4, 4096, 256]⟩
abbrev S8x4096x1024 : Shape := ⟨3, ![8, 4096, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S_ : Shape := ⟨0, ![]⟩
abbrev S8x4x4096 : Shape := ⟨3, ![8, 4, 4096]⟩
abbrev S8x4x4096x1 : Shape := ⟨4, ![8, 4, 4096, 1]⟩
abbrev S1024 : Shape := ⟨1, ![1024]⟩
abbrev S4x256 : Shape := ⟨2, ![4, 256]⟩
abbrev S1x4x1x256 : Shape := ⟨4, ![1, 4, 1, 256]⟩
abbrev S8x4096x4x256 : Shape := ⟨4, ![8, 4096, 4, 256]⟩
abbrev S1024x2048 : Shape := ⟨2, ![1024, 2048]⟩
abbrev S2048x2048 : Shape := ⟨2, ![2048, 2048]⟩
abbrev S2048 : Shape := ⟨1, ![2048]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩

abbrev nBuf : Space → Nat
  | .hbm => 114
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4x4096x256, .f32⟩
  | .hbm, ⟨2, _⟩ => ⟨S8x4x4096x256, .f32⟩
  | .hbm, ⟨3, _⟩ => ⟨S8x4096x1024, .f32⟩
  | .hbm, ⟨4, _⟩ => ⟨S8x4096x1024, .f32⟩
  | .hbm, ⟨5, _⟩ => ⟨S8x4096x2048, .f32⟩
  | .hbm, ⟨6, _⟩ => ⟨S8x4096x2048, .f32⟩
  | .hbm, ⟨7, _⟩ => ⟨S1x1024, .f32⟩
  | .hbm, ⟨8, _⟩ => ⟨S1x1024x2048, .f32⟩
  | .hbm, ⟨9, _⟩ => ⟨S1x1024x2048, .f32⟩
  | .hbm, ⟨10, _⟩ => ⟨S1x2048x2048, .f32⟩
  | .hbm, ⟨11, _⟩ => ⟨S1x2048, .f32⟩
  | .hbm, ⟨12, _⟩ => ⟨S1x2048, .f32⟩
  | .hbm, ⟨13, _⟩ => ⟨S8x4x4096x256, .f32⟩
  | .hbm, ⟨14, _⟩ => ⟨S_, .f32⟩
  | .hbm, ⟨15, _⟩ => ⟨S8x4x4096, .f32⟩
  | .hbm, ⟨16, _⟩ => ⟨S8x4x4096x1, .f32⟩
  | .hbm, ⟨17, _⟩ => ⟨S_, .f32⟩
  | .hbm, ⟨18, _⟩ => ⟨S8x4x4096x1, .f32⟩
  | .hbm, ⟨19, _⟩ => ⟨S8x4x4096x1, .f32⟩
  | .hbm, ⟨20, _⟩ => ⟨S8x4x4096x256, .f32⟩
  | .hbm, ⟨21, _⟩ => ⟨S8x4x4096x256, .f32⟩
  | .hbm, ⟨22, _⟩ => ⟨S8x4x4096x256, .f32⟩
  | .hbm, ⟨23, _⟩ => ⟨S_, .f32⟩
  | .hbm, ⟨24, _⟩ => ⟨S8x4x4096, .f32⟩
  | .hbm, ⟨25, _⟩ => ⟨S8x4x4096x1, .f32⟩
  | .hbm, ⟨26, _⟩ => ⟨S_, .f32⟩
  | .hbm, ⟨27, _⟩ => ⟨S8x4x4096x1, .f32⟩
  | .hbm, ⟨28, _⟩ => ⟨S8x4x4096x1, .f32⟩
  | .hbm, ⟨29, _⟩ => ⟨S8x4x4096x256, .f32⟩
  | .hbm, ⟨30, _⟩ => ⟨S8x4x4096x256, .f32⟩
  | .hbm, ⟨31, _⟩ => ⟨S_, .f32⟩
  | .hbm, ⟨32, _⟩ => ⟨S8x4x4096x1, .f32⟩
  | .hbm, ⟨33, _⟩ => ⟨S8x4x4096x1, .f32⟩
  | .hbm, ⟨34, _⟩ => ⟨S8x4x4096x1, .f32⟩
  | .hbm, ⟨35, _⟩ => ⟨S8x4x4096x256, .f32⟩
  | .hbm, ⟨36, _⟩ => ⟨S8x4x4096x256, .f32⟩
  | .hbm, ⟨37, _⟩ => ⟨S1024, .f32⟩
  | .hbm, ⟨38, _⟩ => ⟨S4x256, .f32⟩
  | .hbm, ⟨39, _⟩ => ⟨S1x4x1x256, .f32⟩
  | .hbm, ⟨40, _⟩ => ⟨S8x4x4096x256, .f32⟩
  | .hbm, ⟨41, _⟩ => ⟨S8x4x4096x256, .f32⟩
  | .hbm, ⟨42, _⟩ => ⟨S8x4096x4x256, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x2048, .f32⟩
  | .hbm, ⟨54, _⟩ => ⟨S8x4096x2048, .f32⟩
  | .hbm, ⟨55, _⟩ => ⟨S_, .f32⟩
  | .hbm, ⟨56, _⟩ => ⟨S8x4096x2048, .f32⟩
  | .hbm, ⟨57, _⟩ => ⟨S8x4096x2048, .f32⟩
  | .hbm, ⟨58, _⟩ => ⟨S_, .f32⟩
  | .hbm, ⟨59, _⟩ => ⟨S8x4096x2048, .f32⟩
  | .hbm, ⟨60, _⟩ => ⟨S8x4096x2048, .f32⟩
  | .hbm, ⟨61, _⟩ => ⟨S1024x2048, .f32⟩
  | .hbm, ⟨62, _⟩ => ⟨S8x4096x2048, .f32⟩
  | .hbm, ⟨63, _⟩ => ⟨S8x4096x2048, .f32⟩
  | .hbm, ⟨64, _⟩ => ⟨S8x4096x2048, .f32⟩
  | .hbm, ⟨65, _⟩ => ⟨S8x4096x2048, .f32⟩
  | .hbm, ⟨66, _⟩ => ⟨S_, .f32⟩
  | .hbm, ⟨67, _⟩ => ⟨S8x4096x2048, .f32⟩
  | .hbm, ⟨68, _⟩ => ⟨S8x4096x2048, .f32⟩
  | .hbm, ⟨69, _⟩ => ⟨S_, .f32⟩
  | .hbm, ⟨70, _⟩ => ⟨S8x4096x2048, .f32⟩
  | .hbm, ⟨71, _⟩ => ⟨S8x4096x2048, .f32⟩
  | .hbm, ⟨72, _⟩ => ⟨S1024x2048, .f32⟩
  | .hbm, ⟨73, _⟩ => ⟨S8x4096x2048, .f32⟩
  | .hbm, ⟨74, _⟩ => ⟨S8x4096x2048, .f32⟩
  | .hbm, ⟨75, _⟩ => ⟨S8x4096x2048, .f32⟩
  | .hbm, ⟨76, _⟩ => ⟨S2048x2048, .f32⟩
  | .hbm, ⟨77, _⟩ => ⟨S8x4096x2048, .f32⟩
  | .hbm, ⟨78, _⟩ => ⟨S_, .f32⟩
  | .hbm, ⟨79, _⟩ => ⟨S8x4096x2048, .f32⟩
  | .hbm, ⟨80, _⟩ => ⟨S8x4096x2048, .f32⟩
  | .hbm, ⟨81, _⟩ => ⟨S8x4096x2048, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S8x4096, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S8x4096x2048, .f32⟩
  | .hbm, ⟨91, _⟩ => ⟨S8x4096x2048, .f32⟩
  | .hbm, ⟨92, _⟩ => ⟨S8x4096x2048, .f32⟩
  | .hbm, ⟨93, _⟩ => ⟨S_, .f32⟩
  | .hbm, ⟨94, _⟩ => ⟨S8x4096, .f32⟩
  | .hbm, ⟨95, _⟩ => ⟨S8x4096x1, .f32⟩
  | .hbm, ⟨96, _⟩ => ⟨S_, .f32⟩
  | .hbm, ⟨97, _⟩ => ⟨S8x4096x1, .f32⟩
  | .hbm, ⟨98, _⟩ => ⟨S8x4096x1, .f32⟩
  | .hbm, ⟨99, _⟩ => ⟨S8x4096x2048, .f32⟩
  | .hbm, ⟨100, _⟩ => ⟨S8x4096x2048, .f32⟩
  | .hbm, ⟨101, _⟩ => ⟨S_, .f32⟩
  | .hbm, ⟨102, _⟩ => ⟨S8x4096x1, .f32⟩
  | .hbm, ⟨103, _⟩ => ⟨S8x4096x1, .f32⟩
  | .hbm, ⟨104, _⟩ => ⟨S8x4096x1, .f32⟩
  | .hbm, ⟨105, _⟩ => ⟨S8x4096x2048, .f32⟩
  | .hbm, ⟨106, _⟩ => ⟨S8x4096x2048, .f32⟩
  | .hbm, ⟨107, _⟩ => ⟨S1x1x2048, .f32⟩
  | .hbm, ⟨108, _⟩ => ⟨S8x4096x2048, .f32⟩
  | .hbm, ⟨109, _⟩ => ⟨S8x4096x2048, .f32⟩
  | .hbm, ⟨110, _⟩ => ⟨S1x1x2048, .f32⟩
  | .hbm, ⟨111, _⟩ => ⟨S8x4096x2048, .f32⟩
  | .hbm, ⟨112, _⟩ => ⟨S8x4096x2048, .f32⟩
  | .hbm, ⟨113, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== Proof.FfnTile.lean ====
/- The feed-forward block of one row, written once, and what each stored tile of the kernel is in its terms. -/
module

public import proofs.«01_k».proof.Proof.Gen.FfnIdeal.Value
public import Idealize.ShloMosaic.Lib.Pointwise
public import Idealize.ShloMosaic.Lib.Pipeline.ValueKit

@[expose] public section

set_option maxRecDepth 16384

noncomputable section

namespace FfnTile

open Idealize.ShloMosaic Idealize.ShloMosaic.TcCoe Idealize.SL.Sem
open Cert.FfnIdeal Cert.FfnIdeal.Gen

/-- One hidden unit of a row: its gate times the gate's sigmoid, times its other projection. -/
def act (X G U : Fin 2048 → EReal) : EReal :=
  (∑ e, X e * G e) * Ideal.div 1 (1 + Ideal.exp (0 - ∑ e, X e * G e)) * ∑ e, X e * U e

/-- What `n` hidden units of a row add to one of its outputs. -/
def gain {n : ℕ} (X : Fin 2048 → EReal) (G U : Fin 2048 → Fin n → EReal) (D : Fin n → EReal) : EReal :=
  ∑ k, act X (fun e => G e k) (fun e => U e k) * D k

/-- The mean of a row. -/
def mean (Y : Fin 2048 → EReal) : EReal := Ideal.div (∑ e, Y e) (Ideal.ofBits FTy.f32 1157627904#32)

/-- A row, less its mean, over its standard deviation, scaled and shifted. -/
def norm (Y G B : Fin 2048 → EReal) (d : Fin 2048) : EReal :=
  (Y d - mean Y) * Ideal.rsqrt (mean (fun e => (Y e - mean Y) * (Y e - mean Y)) + Ideal.ofBits FTy.f32 925353388#32) * G d + B d

/-- A row of the input, scaled, plus half of what the hidden units give. -/
def resid (X A : Fin 2048 → EReal) (e : Fin 2048) : EReal :=
  Ideal.ofBits FTy.f32 1066940400#32 * X e + Ideal.ofBits FTy.f32 1056964608#32 * A e

variable (wg wu : Vec Ideal S2048x512 .bf16) (wd : Vec Ideal S512x2048 .bf16) (g b : Vec Ideal S1x2048 .f32)

/-- What a tile of the hidden units adds to the output `d` of a row. -/
abbrev tileGain (X : Fin 2048 → EReal) (d : Fin 2048) : EReal :=
  gain (n := 512) X (fun e k => wg (ix2 e k)) (fun e k => wu (ix2 e k)) fun k => wd (ix2 k d)

/-- The rows that the first step keeps, upper half: as they are. -/
theorem keep0 (x : Vec Ideal S512x2048 .f32) (r : Fin 512) (d : Fin 2048) : (k0_pay4 x (ix2 r d) : EReal) = x (ix2 r d) := by
  pointwise [k0_pay4]

/-- The rows that the first step keeps, lower half. -/
theorem keep1 (x : Vec Ideal S512x2048 .f32) (r : Fin 512) (d : Fin 2048) : (k0_pay5 x (ix2 r d) : EReal) = x (ix2 r d) := by
  pointwise [k0_pay5]

/-- The first step's sums, upper half. -/
theorem first0 (x : Vec Ideal S512x2048 .bf16) (r : Fin 512) (d : Fin 2048) :
    k0_pay6 x wg wu wd (ix2 r d) = tileGain wg wu wd (fun e => x (ix2 r e)) d := by
  pointwise [k0_pay6]
  rfl

/-- The first step's sums, lower half. -/
theorem first1 (x : Vec Ideal S512x2048 .bf16) (r : Fin 512) (d : Fin 2048) :
    k0_pay1 x wg wu wd (ix2 r d) = tileGain wg wu wd (fun e => x (ix2 r e)) d := by
  pointwise [k0_pay1]
  rfl

/-- A middle step's sums. -/
theorem middle (acc : Vec Ideal S1024x2048 .f32) (x : Vec Ideal S1024x2048 .bf16) (r : Fin 1024) (d : Fin 2048) :
    k0_pay2 acc x wg wu wd (ix2 r d) = (acc (ix2 r d) + tileGain wg wu wd (fun e => x (ix2 r e)) d : EReal) := by
  pointwise [k0_pay2]
  rfl

variable (acc x : Vec Ideal S256x2048 .f32) (xb : Vec Ideal S256x2048 .bf16) (r : Fin 256) (d : Fin 2048)

/-- What the last step leaves in a row: the normalised sum. -/
abbrev done : EReal :=
  norm (resid (fun e => x (ix2 r e)) fun e => acc (ix2 r e) + tileGain wg wu wd (fun e' => xb (ix2 r e')) e)
    (fun e => g (ix2 0 e)) (fun e => b (ix2 0 e)) d

/-- The last step's first tile of rows. -/
theorem last0 : k0_pay15 (k0_pay13 b) (k0_pay14 (k0_pay7 acc xb wg wu wd) x g) (ix2 r d) = done wg wu wd g b acc x xb r d := by
  pointwise [k0_pay15, k0_pay13, k0_pay14, k0_pay7]
  rfl

/-- The last step's second tile of rows. -/
theorem last1 : k0_pay19 (k0_pay17 (k0_pay12 (k0_pay8 acc) (k0_pay9 xb wg) (k0_pay10 xb wu) k0_pay11 wd) x) (k0_pay18 g) b (ix2 r d)
    = done wg wu wd g b acc x xb r d := by
  pointwise [k0_pay19, k0_pay17, k0_pay12, k0_pay8, k0_pay9, k0_pay10, k0_pay11, k0_pay18]
  rfl

/-- The last step's third tile of rows. -/
theorem last2 : k0_pay25 (k0_pay16 acc xb wg wu wd) x g b (ix2 r d) = done wg wu wd g b acc x xb r d := by
  pointwise [k0_pay25, k0_pay16]
  rfl

/-- The last step's fourth tile of rows. -/
theorem last3 : k0_pay3 (k0_pay24 (k0_pay20 acc) (k0_pay21 xb wg) (k0_pay22 xb wu) (k0_pay23 xb wg) (FloatOps.ofBits FTy.f32 1065353216#32) wd)
    x g b (ix2 r d) = done wg wu wd g b acc x xb r d := by
  pointwise [k0_pay3, k0_pay24, k0_pay20, k0_pay21, k0_pay22, k0_pay23]
  rfl

end FfnTile
end
-- ==== Proof.FfnRead.lean ====
/- What the blocks that the feed-forward kernel loads hold, in the arguments. -/
module

public import proofs.«01_k».proof.Proof.Gen.FfnIdeal.Value
public import Idealize.ShloMosaic.Lib.Pointwise
public import Idealize.ShloMosaic.Lib.StableHlo.RunRead
public import Idealize.ShloMosaic.Lib.Pipeline.ValueKit

@[expose] public section

set_option maxRecDepth 16384

noncomputable section

namespace FfnRead

open Idealize.ShloMosaic Idealize.ShloMosaic.TcCoe Idealize.SL.Sem
open Cert.FfnIdeal Cert.FfnIdeal.Gen

variable (m : (ℓ : Loc nD τ sig) → Buf (Elt Ideal) ℓ) (c : Dev nD)

/-- The kernel's input, weights, scale and shift: the arguments it is run on. -/
abbrev xa : Vec Ideal S8x4096x2048 .f32 := m ((c : Thread nD τ).loc main_arg0)
@[inherit_doc xa] abbrev wa : Vec Ideal S1x2048x11264 .f32 := m ((c : Thread nD τ).loc main_arg1)
@[inherit_doc xa] abbrev da : Vec Ideal S1x5632x2048 .f32 := m ((c : Thread nD τ).loc main_arg2)
@[inherit_doc xa] abbrev ga : Vec Ideal S1x2048 .f32 := m ((c : Thread nD τ).loc main_arg3)
@[inherit_doc xa] abbrev ba : Vec Ideal S1x2048 .f32 := m ((c : Thread nD τ).loc main_arg4)

/-- The tokens as one list. -/
theorem V_x (n : Fin 32768) (e : Fin 2048) : V m c main_v0 (ix2 n e) = xa m c (ix3 ⟨(n : ℕ) / 4096, by omega⟩ ⟨(n : ℕ) % 4096, by omega⟩ e) := by
  have h : V m c main_v0 = shapeCast S32768x2048 (xa m c) shapeCasts_S8x4096x2048_S32768x2048 := by
    unfold V
    after_reads_simp
    rfl
  rw [h]
  pointwise
  blk_ext

/-- The first weights. -/
theorem V_w (e : Fin 2048) (k : Fin 11264) : V m c main_v2 (ix2 e k) = wa m c (ix3 0 e k) := by
  have h : V m c main_v2 = truncf (F := Ideal) (φ := .f32) .bf16 (shapeCast S2048x11264 (wa m c) shapeCasts_S1x2048x11264_S2048x11264) bitsLt_bf16_f32 := by
    unfold V
    after_reads_simp
    rfl
  rw [h]
  pointwise
  blk_ext

/-- The second weights. -/
theorem V_d (k : Fin 5632) (e : Fin 2048) : V m c main_v4 (ix2 k e) = da m c (ix3 0 k e) := by
  have h : V m c main_v4 = truncf (F := Ideal) (φ := .f32) .bf16 (shapeCast S5632x2048 (da m c) shapeCasts_S1x5632x2048_S5632x2048) bitsLt_bf16_f32 := by
    unfold V
    after_reads_simp
    rfl
  rw [h]
  pointwise
  blk_ext

/-- The scale. -/
theorem V_g (e : Fin 2048) : V m c main_v6 (ix2 0 e) = ga m c (ix2 0 e) := by
  have h : V m c main_v6 = shapeCast S1x2048 (shapeCast S2048 (ga m c) shapeCasts_S1x2048_S2048) shapeCasts_S2048_S1x2048 := by
    unfold V
    after_reads_simp
    rfl
  rw [h]
  pointwise
  blk_ext

/-- The shift. -/
theorem V_b (e : Fin 2048) : V m c main_v8 (ix2 0 e) = ba m c (ix2 0 e) := by
  have h : V m c main_v8 = shapeCast S1x2048 (shapeCast S2048 (ba m c) shapeCasts_S1x2048_S2048) shapeCasts_S2048_S1x2048 := by
    unfold V
    after_reads_simp
    rfl
  rw [h]
  pointwise
  blk_ext

/-- The printed index maps of the windows. -/
theorem idx_val : ∀ t : Fin cfg0.N, win0_0.index t = ![t.val / 11, 0] ∧ win0_1.index t = ![0, t.val % 11] ∧ win0_2.index t = ![0, t.val % 11 + 11]
    ∧ win0_3.index t = ![t.val % 11, 0] ∧ win0_4.index t = ![0, 0] ∧ win0_5.index t = ![0, 0] ∧ win0_6.index t = ![t.val / 11, 0] :=
  (by decide +kernel : ∀ t : Fin grid0.N, _)

/-- The rows of tokens of a grid point. -/
theorem x_blk (t : Fin cfg0.N) (r : Fin 1024) (e : Fin 2048) (n : Fin 32768) (hn : (n : ℕ) = (t : ℕ) / 11 * 1024 + r) :
    iblk m c 0 t (ix2 r e) = V m c main_v0 (ix2 n e) := by
  have ht := lt_of_lt_of_eq t.isLt N_0
  pointwise [iblk]
  blk_ext [idx_val t]

/-- The gate's columns of a grid point. -/
theorem g_blk (t : Fin cfg0.N) (e : Fin 2048) (k : Fin 512) (l : Fin 11264) (hl : (l : ℕ) = (t : ℕ) % 11 * 512 + k) :
    iblk m c 1 t (ix2 e k) = V m c main_v2 (ix2 e l) := by
  have ht := lt_of_lt_of_eq t.isLt N_0
  pointwise [iblk]
  blk_ext [idx_val t]

/-- The other projection's columns of a grid point. -/
theorem u_blk (t : Fin cfg0.N) (e : Fin 2048) (k : Fin 512) (l : Fin 11264) (hl : (l : ℕ) = ((t : ℕ) % 11 + 11) * 512 + k) :
    iblk m c 2 t (ix2 e k) = V m c main_v2 (ix2 e l) := by
  have ht := lt_of_lt_of_eq t.isLt N_0
  pointwise [iblk]
  blk_ext [idx_val t]

/-- The second weights' rows of a grid point. -/
theorem d_blk (t : Fin cfg0.N) (k : Fin 512) (e : Fin 2048) (l : Fin 5632) (hl : (l : ℕ) = (t : ℕ) % 11 * 512 + k) :
    iblk m c 3 t (ix2 k e) = V m c main_v4 (ix2 l e) := by
  have ht := lt_of_lt_of_eq t.isLt N_0
  pointwise [iblk]
  blk_ext [idx_val t]

/-- The scale of a grid point. -/
theorem s_blk (t : Fin cfg0.N) (e : Fin 2048) : iblk m c 4 t (ix2 0 e) = V m c main_v6 (ix2 0 e) := by
  have ht := lt_of_lt_of_eq t.isLt N_0
  pointwise [iblk]
  blk_ext [idx_val t]

/-- The shift of a grid point. -/
theorem b_blk (t : Fin cfg0.N) (e : Fin 2048) : iblk m c 5 t (ix2 0 e) = V m c main_v8 (ix2 0 e) := by
  have ht := lt_of_lt_of_eq t.isLt N_0
  pointwise [iblk]
  blk_ext [idx_val t]

end FfnRead
end
-- ==== Proof.FfnBlock.lean ====
/- The feed-forward kernel's output block by block: the sums that its steps carry, and the rows that the last step leaves. -/
module

public import proofs.«01_k».proof.Proof.FfnTile
public import proofs.«01_k».proof.Proof.FfnRead
public import Idealize.ShloMosaic.Lib.Pipeline.ReadBack

@[expose] public section

set_option maxRecDepth 16384

noncomputable section

namespace FfnBlock

open Idealize.ShloMosaic Idealize.ShloMosaic.TcCoe Idealize.SL.Sem
open Cert.FfnIdeal Cert.FfnIdeal.Gen FfnTile FfnRead

variable (m : (ℓ : Loc nD τ sig) → Buf (Elt Ideal) ℓ) (c : Dev nD)

/-- An index of a block by its two coordinates. -/
theorem two {n k : ℕ} (y : (⟨2, ![n, k]⟩ : Shape).Idx) (a : Fin n) (d : Fin k) (ha : (y 0 : ℕ) = a) (hd : (y 1 : ℕ) = d) : y = ix2 a d :=
  funext fun z => match z with | ⟨0, _⟩ => Fin.ext ha | ⟨1, _⟩ => Fin.ext hd

/-- A load of `h` rows of a block, from its row `o`. -/
theorem ld_at {φ : EltTy} {k n : ℕ} (Z : (⟨2, ![n, k]⟩ : Shape).Idx → Elt Ideal φ) (o h : ℕ)
    (ib : ∀ a, (![o, 0] : Fin 2 → ℕ) a + (![h, k] : Fin 2 → ℕ) a ≤ (⟨2, ![n, k]⟩ : Shape).size a) (a : Fin h) (r : Fin n) (e : Fin k)
    (hr : (r : ℕ) = o + a) : View.ld Z (Rect.unit ![o, 0] ![h, k] ib) (ix2 a e) = Z (ix2 r e) := by
  refine congrArg Z (two _ r e ?_ ?_)
  · show o + 1 * (a : ℕ) = r
    omega
  · show 0 + 1 * (e : ℕ) = e
    omega

/-- What the tile of the hidden units at a grid point adds to output `d` of a row. -/
abbrev stepGain (t : Fin cfg0.N) (X : Fin 2048 → EReal) (d : Fin 2048) : EReal := tileGain (iblk m c 1 t) (iblk m c 2 t) (iblk m c 3 t) X d

/-- The first step keeps the rows of tokens. -/
theorem keep_first (t : Fin cfg0.N) (h0 : t.val % 11 = 0) (h1 : ¬(1 ≤ t.val % 11 ∧ t.val % 11 ≤ 9)) (h2 : ¬t.val % 11 = 10)
    (r : Fin 1024) (d : Fin 2048) : ((outsAt0 m c t.val t.isLt).2 (ix2 r d) : EReal) = iblk m c 0 t (ix2 r d) := by
  rw [outsAt0_A m c t h0 h1 h2]
  frame_out
  canon_tiles x hz
  case piece0 =>
    obtain ⟨a, d', rfl⟩ : ∃ (a : Fin 512) (d' : Fin 2048), x = ix2 a d' := ⟨x 0, x 1, two x _ _ rfl rfl⟩
    obtain rfl : d = d' := Fin.ext hz1
    exact (keep1 _ a d).trans (ld_at (iblk m c 0 t) 512 _ _ a r d hz0)
  case piece1 =>
    obtain ⟨a, d', rfl⟩ : ∃ (a : Fin 512) (d' : Fin 2048), x = ix2 a d' := ⟨x 0, x 1, two x _ _ rfl rfl⟩
    obtain rfl : d = d' := Fin.ext hz1
    exact (keep0 _ a d).trans (ld_at (iblk m c 0 t) 0 _ _ a r d (hz0.trans (Nat.zero_add _).symm))

/-- The first step's sums. -/
theorem sum_first (t : Fin cfg0.N) (h0 : t.val % 11 = 0) (h1 : ¬(1 ≤ t.val % 11 ∧ t.val % 11 ≤ 9)) (h2 : ¬t.val % 11 = 10)
    (r : Fin 1024) (d : Fin 2048) :
    ((outsAt0 m c t.val t.isLt).1 (ix2 r d) : EReal) = stepGain m c t (fun e => iblk m c 0 t (ix2 r e)) d := by
  rw [outsAt0_A m c t h0 h1 h2]
  frame_out
  canon_tiles x hz
  case piece0 =>
    rw [View.readCov_cons_toLoadRect]
    obtain ⟨a, d', rfl⟩ : ∃ (a : Fin 512) (d' : Fin 2048), x = ix2 a d' := ⟨x 0, x 1, two x _ _ rfl rfl⟩
    obtain rfl : d = d' := Fin.ext hz1
    refine (first1 _ _ _ _ a d).trans (congrArg (fun X => stepGain m c t X d) (funext fun e => ?_))
    exact (keep1 _ a e).trans (ld_at (iblk m c 0 t) 512 _ _ a r e hz0)
  case piece1 =>
    rw [View.readCov_skip _ _ _ _ _ (by decide), View.readCov_cons_toLoadRect]
    obtain ⟨a, d', rfl⟩ : ∃ (a : Fin 512) (d' : Fin 2048), x = ix2 a d' := ⟨x 0, x 1, two x _ _ rfl rfl⟩
    obtain rfl : d = d' := Fin.ext hz1
    refine (first0 _ _ _ _ a d).trans (congrArg (fun X => stepGain m c t X d) (funext fun e => ?_))
    exact (keep0 _ a e).trans (ld_at (iblk m c 0 t) 0 _ _ a r e (hz0.trans (Nat.zero_add _).symm))

/-- A later step keeps the rows that it found. -/
theorem keep_mid (t : Fin cfg0.N) (h0 : ¬t.val % 11 = 0) (h1 : (1 ≤ t.val % 11 ∧ t.val % 11 ≤ 9)) (h2 : ¬t.val % 11 = 10) :
    (outsAt0 m c t.val t.isLt).2 = (outsAt0 m c (t.val - 1) (by omega)).2 := by
  rw [outsAt0_B m c t h0 h1 h2]
  rfl

/-- A later step adds its tile to the sums. -/
theorem sum_mid (t : Fin cfg0.N) (h0 : ¬t.val % 11 = 0) (h1 : (1 ≤ t.val % 11 ∧ t.val % 11 ≤ 9)) (h2 : ¬t.val % 11 = 10)
    (r : Fin 1024) (d : Fin 2048) :
    ((outsAt0 m c t.val t.isLt).1 (ix2 r d) : EReal) = (outsAt0 m c (t.val - 1) (by omega)).1 (ix2 r d)
      + stepGain m c t (fun e => (outsAt0 m c (t.val - 1) (by omega)).2 (ix2 r e)) d := by
  rw [outsAt0_B m c t h0 h1 h2]
  frame_out
  rw [read_unread_whole]
  exact middle _ _ _ _ _ r d

/-- What a tile of rows ends as, where its loads start at row `o` of their blocks. -/
theorem rows (t : Fin cfg0.N) (Z X : Vec Ideal S1024x2048 .f32) (B : Vec Ideal S1024x2048 .bf16) (o : ℕ)
    (i1 i2 i3 : ∀ a, (![o, 0] : Fin 2 → ℕ) a + (![256, 2048] : Fin 2 → ℕ) a ≤ S1024x2048.size a)
    (a : Fin 256) (r : Fin 1024) (hr : (r : ℕ) = o + a) (d : Fin 2048) :
    done (iblk m c 1 t) (iblk m c 2 t) (iblk m c 3 t) (iblk m c 4 t) (iblk m c 5 t) (View.ld Z (Rect.unit ![o, 0] ![256, 2048] i1))
      (View.ld X (Rect.unit ![o, 0] ![256, 2048] i2)) (View.ld B (Rect.unit ![o, 0] ![256, 2048] i3)) a d
    = norm (resid (fun e => X (ix2 r e)) fun e => (Z (ix2 r e) + stepGain m c t (fun e' => B (ix2 r e')) e : EReal))
      (fun e => iblk m c 4 t (ix2 0 e)) (fun e => iblk m c 5 t (ix2 0 e)) d := by
  have e1 (e : Fin 2048) := ld_at Z o 256 i1 a r e hr
  have e2 (e : Fin 2048) := ld_at X o 256 i2 a r e hr
  have e3 (e : Fin 2048) := ld_at B o 256 i3 a r e hr
  unfold done
  refine congrArg (fun Y => norm Y _ _ d) (congr (congrArg resid (funext e2)) (funext fun e => ?_))
  refine congr (congrArg HAdd.hAdd (e1 e)) (congrArg (fun X => stepGain m c t X e) (funext e3))

/-- The last step adds its tile and normalises the rows. -/
theorem last (t : Fin cfg0.N) (h0 : ¬t.val % 11 = 0) (h1 : ¬(1 ≤ t.val % 11 ∧ t.val % 11 ≤ 9)) (h2 : t.val % 11 = 10)
    (r : Fin 1024) (d : Fin 2048) :
    ((outsAt0 m c t.val t.isLt).1 (ix2 r d) : EReal) = norm (resid (fun e => iblk m c 0 t (ix2 r e)) fun e =>
      (outsAt0 m c (t.val - 1) (by omega)).1 (ix2 r e) + stepGain m c t (fun e' => (outsAt0 m c (t.val - 1) (by omega)).2 (ix2 r e')) e)
      (fun e => iblk m c 4 t (ix2 0 e)) (fun e => iblk m c 5 t (ix2 0 e)) d := by
  rw [outsAt0_C m c t h0 h1 h2]
  frame_out
  canon_tiles x hz
  case piece0 =>
    rw [read_unread_whole]
    obtain ⟨a, d', rfl⟩ : ∃ (a : Fin 256) (d' : Fin 2048), x = ix2 a d' := ⟨x 0, x 1, two x _ _ rfl rfl⟩
    obtain rfl : d = d' := Fin.ext hz1
    exact (last3 _ _ _ _ _ _ _ _ a d).trans (rows m c t _ _ _ 768 _ _ _ a r hz0 d)
  case piece1 =>
    rw [read_unread_whole]
    obtain ⟨a, d', rfl⟩ : ∃ (a : Fin 256) (d' : Fin 2048), x = ix2 a d' := ⟨x 0, x 1, two x _ _ rfl rfl⟩
    obtain rfl : d = d' := Fin.ext hz1
    exact (last2 _ _ _ _ _ _ _ _ a d).trans (rows m c t _ _ _ 512 _ _ _ a r hz0 d)
  case piece2 =>
    rw [read_unread_whole]
    obtain ⟨a, d', rfl⟩ : ∃ (a : Fin 256) (d' : Fin 2048), x = ix2 a d' := ⟨x 0, x 1, two x _ _ rfl rfl⟩
    obtain rfl : d = d' := Fin.ext hz1
    exact (last1 _ _ _ _ _ _ _ _ a d).trans (rows m c t _ _ _ 256 _ _ _ a r hz0 d)
  case piece3 =>
    rw [read_unread_whole]
    obtain ⟨a, d', rfl⟩ : ∃ (a : Fin 256) (d' : Fin 2048), x = ix2 a d' := ⟨x 0, x 1, two x _ _ rfl rfl⟩
    obtain rfl : d = d' := Fin.ext hz1
    exact (last0 _ _ _ _ _ _ _ _ a d).trans (rows m c t _ _ _ 0 _ _ _ a r (hz0.trans (Nat.zero_add _).symm) d)

/-- Token `n`, as a row. -/
abbrev row (n : Fin 32768) (e : Fin 2048) : EReal := xa m c (ix3 ⟨(n : ℕ) / 4096, by omega⟩ ⟨(n : ℕ) % 4096, by omega⟩ e)

/-- What the hidden units `512 s` to `512 s + 511` add to output `d` of a row. -/
abbrev part (X : Fin 2048 → EReal) (d : Fin 2048) (s : Fin 11) : EReal :=
  gain (n := 512) X (fun e k => wa m c (ix3 0 e ⟨(s : ℕ) * 512 + k, by omega⟩)) (fun e k => wa m c (ix3 0 e ⟨5632 + ((s : ℕ) * 512 + k), by omega⟩))
    fun k => da m c (ix3 0 ⟨(s : ℕ) * 512 + k, by omega⟩ d)

/-- A grid point's tile is the tile of the hidden units that its number names. -/
theorem step_part (t : Fin cfg0.N) (s : Fin 11) (hs : (t : ℕ) % 11 = s) (X : Fin 2048 → EReal) (d : Fin 2048) :
    stepGain m c t X d = part m c X d s := by
  have eg (e : Fin 2048) (k : Fin 512) := (g_blk m c t e k ⟨(s : ℕ) * 512 + k, by omega⟩ (by rw [hs])).trans (V_w m c e _)
  have eu (e : Fin 2048) (k : Fin 512) := (u_blk m c t e k ⟨5632 + ((s : ℕ) * 512 + k), by omega⟩ (by rw [hs]; simp only; omega)).trans (V_w m c e _)
  have ed (k : Fin 512) := (d_blk m c t k d ⟨(s : ℕ) * 512 + k, by omega⟩ (by rw [hs])).trans (V_d m c _ d)
  exact congr (congr (congrArg (gain X) (funext fun e => funext (eg e))) (funext fun e => funext (eu e))) (funext ed)

/-- A grid point's rows are those of its tokens. -/
theorem x_row (t : Fin cfg0.N) (r : Fin 1024) (n : Fin 32768) (hn : (n : ℕ) = (t : ℕ) / 11 * 1024 + r) (e : Fin 2048) :
    iblk m c 0 t (ix2 r e) = row m c n e := (x_blk m c t r e n hn).trans (V_x m c n e)

/-- After step `j` of a block of tokens, other than the last: the rows are kept, and the sums are of the tiles so far. -/
theorem carried (i : ℕ) (hi : i < 32) (r : Fin 1024) (n : Fin 32768) (hn : (n : ℕ) = i * 1024 + r) :
    ∀ (j : ℕ) (hj : j < 10) (p : ℕ) (hp : p = 11 * i + j) (hb : p < cfg0.N),
      (∀ d, ((outsAt0 m c p hb).2 (ix2 r d) : EReal) = row m c n d) ∧
      ∀ d, ((outsAt0 m c p hb).1 (ix2 r d) : EReal) = ∑ s : Fin (j + 1), part m c (row m c n) d ⟨s, by omega⟩ := by
  intro j
  induction j with
  | zero =>
    intro hj p hp hb
    have ex := x_row m c ⟨p, hb⟩ r n (by simp only; omega)
    refine ⟨fun d => (keep_first m c ⟨p, hb⟩ (by simp only; omega) (by simp only; omega) (by simp only; omega) r d).trans (ex d), fun d => ?_⟩
    refine (sum_first m c ⟨p, hb⟩ (by simp only; omega) (by simp only; omega) (by simp only; omega) r d).trans ?_
    rw [funext ex, Fin.sum_univ_one]
    exact step_part m c ⟨p, hb⟩ ⟨0, by omega⟩ (by simp only; omega) _ d
  | succ j ih =>
    intro hj p hp hb
    obtain ⟨k, s⟩ := ih (by omega) (p - 1) (by omega) (by omega)
    refine ⟨fun d => ?_, fun d => ?_⟩
    · exact (congrFun (keep_mid m c ⟨p, hb⟩ (by simp only; omega) (by simp only; omega) (by simp only; omega)) _).trans (k d)
    · refine (sum_mid m c ⟨p, hb⟩ (by simp only; omega) (by simp only; omega) (by simp only; omega) r d).trans ?_
      rw [Fin.sum_univ_castSucc]
      refine congr (congrArg HAdd.hAdd (s d)) ?_
      rw [funext k]
      exact step_part m c ⟨p, hb⟩ ⟨j + 1, by omega⟩ (by simp only; omega) _ d

/-- The tiles together are all of the hidden units. -/
theorem parts (X : Fin 2048 → EReal) (d : Fin 2048) : ∑ s : Fin 11, part m c X d s
    = gain (n := 5632) X (fun e l => wa m c (ix3 0 e ⟨(l : ℕ), by omega⟩)) (fun e l => wa m c (ix3 0 e ⟨5632 + (l : ℕ), by omega⟩))
        fun l => da m c (ix3 0 l d) :=
  Fin.sum_mul_add_congr (S := 11) (n := 512) fun _ _ _ => rfl

/-- The block of token `n`, output `d`: all of the hidden units, then the layer norm. -/
abbrev out (n : Fin 32768) (d : Fin 2048) : EReal :=
  norm (resid (row m c n) fun e => gain (n := 5632) (row m c n) (fun e' l => wa m c (ix3 0 e' ⟨(l : ℕ), by omega⟩))
      (fun e' l => wa m c (ix3 0 e' ⟨5632 + (l : ℕ), by omega⟩)) fun l => da m c (ix3 0 l e))
    (fun e => ga m c (ix2 0 e)) (fun e => ba m c (ix2 0 e)) d

/-- What the last step of a block of tokens leaves. -/
theorem point (t : Fin cfg0.N) (ht : (t : ℕ) % 11 = 10) (r : Fin 1024) (d : Fin 2048) (n : Fin 32768) (hn : (n : ℕ) = (t : ℕ) / 11 * 1024 + r) :
    ((outsAt0 m c t.val t.isLt).1 (ix2 r d) : EReal) = out m c n d := by
  have hN := lt_of_lt_of_eq t.isLt N_0
  obtain ⟨k, s⟩ := carried m c ((t : ℕ) / 11) (by omega) r n hn 9 (by omega) ((t : ℕ) - 1) (by omega) (by omega)
  refine (last m c t (by omega) (by omega) ht r d).trans ?_
  rw [funext k, funext (x_row m c t r n hn), funext fun e => (s_blk m c t e).trans (V_g m c e), funext fun e => (b_blk m c t e).trans (V_b m c e)]
  refine congrArg (fun A => norm (resid _ A) _ _ d) (funext fun e => ?_)
  rw [s e, step_part m c t ⟨10, by omega⟩ ht, ← parts, Fin.sum_univ_castSucc (n := 10)]
  rfl

/-- The kernel's result, whole. -/
theorem final : (dats m 0 c).arrAt 6 cfg0.N = fun i : S32768x2048.Idx => out m c (i 0) (i 1) := by
  refine (dats m 0 c).arrAt_eq_of_covers 6 _ (by decide +kernel) fun t hf y => ?_
  have ht := lt_of_lt_of_eq t.isLt N_0
  have h0 := (y 0).isLt
  have h1 := (y 1).isLt
  simp at h0 h1
  blk_simp
  rw [after0_6]
  refine (congrArg (outsAt0 m c t.val t.isLt).1 (two y ⟨_, h0⟩ ⟨_, h1⟩ rfl rfl)).trans ?_
  refine (point m c t ((flush0_6 t).mp hf) ⟨_, h0⟩ ⟨_, h1⟩ _ ?_).trans (congrArg (out m c _) (Fin.ext ?_))
  all_goals (blk_simp [idx_val t])

end FfnBlock
end
-- ==== Proof.FfnRef.lean ====
/- What the reference of the feed-forward block computes, element by element. -/
module

public import proofs.«01_k».proof.Proof.FfnTile
public import proofs.«01_k».proof.Proof.Gen.FfnRefIdeal.Run
public import Idealize.ShloMosaic.Lib.Pointwise
public import Idealize.ShloMosaic.Lib.Pipeline.ValueKit

@[expose] public section

set_option maxRecDepth 16384

noncomputable section

namespace FfnRef

open Idealize.ShloMosaic Idealize.ShloMosaic.TcCoe Idealize.SL.Sem
open FfnTile

/-- The feed-forward block of token `n`, output `d`: all of the hidden units, then the layer norm. -/
def block (x : Vec Ideal Cert.FfnRefIdeal.S8x4096x2048 .f32) (w : Vec Ideal Cert.FfnRefIdeal.S1x2048x11264 .f32)
    (v : Vec Ideal Cert.FfnRefIdeal.S1x5632x2048 .f32) (g b : Vec Ideal Cert.FfnRefIdeal.S1x2048 .f32) (n : Fin 32768) (d : Fin 2048) : EReal :=
  norm (resid (fun e => x (ix3 ⟨(n : ℕ) / 4096, by omega⟩ ⟨(n : ℕ) % 4096, by omega⟩ e))
      fun e => gain (n := 5632) (fun e => x (ix3 ⟨(n : ℕ) / 4096, by omega⟩ ⟨(n : ℕ) % 4096, by omega⟩ e))
        (fun e' l => w (ix3 0 e' ⟨(l : ℕ), by omega⟩)) (fun e' l => w (ix3 0 e' ⟨5632 + (l : ℕ), by omega⟩)) fun l => v (ix3 0 l e))
    (fun e => g (ix2 0 e)) (fun e => b (ix2 0 e)) d

open Cert.FfnRefIdeal Cert.FfnRefIdeal.Gen Cert.FfnRefIdeal.Value

/-- The product with the first weights. -/
def gateUp (x : Vec Ideal S8x4096x2048 .f32) (w : Vec Ideal S1x2048x11264 .f32) : FVec Ideal S8x4096x11264 .f32 :=
  Host.dotGeneral (F := Ideal) (φ₁ := .f32) (φ₂ := .f32) dot_S8x4096x2048_S2048x11264_S8x4096x11264_2_0_01_1_n_n none x
    (shapeCast S2048x11264 w shapeCasts_S1x2048x11264_S2048x11264)

/-- The hidden units, from that product. -/
def hidden (P : FVec Ideal S8x4096x11264 .f32) : FVec Ideal S8x4096x5632 .f32 :=
  mulf (mulf (extractStridedSlice S8x4096x5632 ![0, 0, 0] P slices_S8x4096x11264_S8x4096x5632_0_0_0)
    (Host.divf (broadcastInDim S8x4096x5632 ![] bcast_S_S8x4096x5632 (constant S_ .f32 0x3F800000#32))
      (addf (broadcastInDim S8x4096x5632 ![] bcast_S_S8x4096x5632 (constant S_ .f32 0x3F800000#32))
        (Host.exp (Host.negf (extractStridedSlice S8x4096x5632 ![0, 0, 0] P slices_S8x4096x11264_S8x4096x5632_0_0_0))))))
    (extractStridedSlice S8x4096x5632 ![0, 0, 5632] P slices_S8x4096x11264_S8x4096x5632_0_0_5632)

/-- The scaled input plus half of the hidden units' product with the second weights. -/
def total (x : Vec Ideal S8x4096x2048 .f32) (H : FVec Ideal S8x4096x5632 .f32) (v : Vec Ideal S1x5632x2048 .f32) : FVec Ideal S8x4096x2048 .f32 :=
  addf (mulf (broadcastInDim S8x4096x2048 ![] bcast_S_S8x4096x2048 (constant S_ .f32 0x3F9837F0#32)) x)
    (mulf (broadcastInDim S8x4096x2048 ![] bcast_S_S8x4096x2048 (constant S_ .f32 0x3F000000#32))
      (Host.dotGeneral (F := Ideal) (φ₁ := .f32) (φ₂ := .f32) dot_S8x4096x5632_S5632x2048_S8x4096x2048_2_0_01_1_n_n none H
        (shapeCast S5632x2048 v shapeCasts_S1x5632x2048_S5632x2048)))

/-- The means of the rows. -/
def means (Y : FVec Ideal S8x4096x2048 .f32) : FVec Ideal S8x4096x1 .f32 :=
  Host.divf (broadcastInDim S8x4096x1 ![0, 1] bcast_S8x4096_S8x4096x1_0_1
      (Host.reduceAdd Y (constant S_ .f32 0x00000000#32) reducesTo_S8x4096x2048_S8x4096_d2 h_S_))
    (broadcastInDim S8x4096x1 ![] bcast_S_S8x4096x1 (constant S_ .f32 0x45000000#32))

/-- The rows less their means. -/
def centred (Y : FVec Ideal S8x4096x2048 .f32) : FVec Ideal S8x4096x2048 .f32 :=
  subf Y (broadcastInDim S8x4096x2048 ![0, 1, 2] bcast_S8x4096x1_S8x4096x2048_0_1_2 (means Y))

/-- The layer norm of the rows. -/
def normed (Y : FVec Ideal S8x4096x2048 .f32) (g b : Vec Ideal S1x2048 .f32) : FVec Ideal S8x4096x2048 .f32 :=
  addf (mulf (mulf (centred Y) (broadcastInDim S8x4096x2048 ![0, 1, 2] bcast_S8x4096x1_S8x4096x2048_0_1_2
      (Host.rsqrt (addf (means (mulf (centred Y) (centred Y)))
        (broadcastInDim S8x4096x1 ![] bcast_S_S8x4096x1 (constant S_ .f32 0x3727C5AC#32))))))
    (broadcastInDim S8x4096x2048 ![0, 1, 2] bcast_S1x1x2048_S8x4096x2048_0_1_2
      (broadcastInDim S1x1x2048 ![2] bcast_S2048_S1x1x2048_2 (shapeCast S2048 g shapeCasts_S1x2048_S2048))))
    (broadcastInDim S8x4096x2048 ![0, 1, 2] bcast_S1x1x2048_S8x4096x2048_0_1_2
      (broadcastInDim S1x1x2048 ![2] bcast_S2048_S1x1x2048_2 (shapeCast S2048 b shapeCasts_S1x2048_S2048)))

/-- The product with the first weights, element by element. -/
theorem gateUp_at (x : Vec Ideal S8x4096x2048 .f32) (w : Vec Ideal S1x2048x11264 .f32) (i : Fin 8) (n : Fin 4096) (l : Fin 11264) :
    gateUp x w (ix3 i n l) = (∑ e : Fin 2048, x (ix3 i n e) * w (ix3 0 e l) : EReal) := by
  pointwise [gateUp]

/-- A hidden unit, from the two products. -/
theorem hidden_at (P : FVec Ideal S8x4096x11264 .f32) (i : Fin 8) (n : Fin 4096) (l : Fin 5632) :
    hidden P (ix3 i n l) = (P (ix3 i n ⟨l, by omega⟩) * Ideal.div 1 (1 + Ideal.exp (0 - P (ix3 i n ⟨l, by omega⟩)))
      * P (ix3 i n ⟨5632 + l, by omega⟩) : EReal) := by
  pointwise [hidden]
  simp only [zero_sub]

/-- The sum, element by element. -/
theorem total_at (x : Vec Ideal S8x4096x2048 .f32) (H : FVec Ideal S8x4096x5632 .f32) (v : Vec Ideal S1x5632x2048 .f32)
    (i : Fin 8) (n : Fin 4096) (e : Fin 2048) :
    total x H v (ix3 i n e) = resid (fun e => x (ix3 i n e)) (fun e => ∑ l : Fin 5632, H (ix3 i n l) * v (ix3 0 l e)) e := by
  pointwise [total]
  rfl

/-- The means, row by row. -/
theorem means_at (Y : FVec Ideal S8x4096x2048 .f32) (i : Fin 8) (n : Fin 4096) :
    means Y (ix3 i n 0) = mean fun e => Y (ix3 i n e) := by
  pointwise [means]
  rfl

/-- A row less its mean. -/
theorem centred_at (Y : FVec Ideal S8x4096x2048 .f32) (i : Fin 8) (n : Fin 4096) (e : Fin 2048) :
    centred Y (ix3 i n e) = (Y (ix3 i n e) - mean fun e => Y (ix3 i n e) : EReal) := by
  pointwise [centred, means_at]

/-- The layer norm of a row. -/
theorem normed_at (Y : FVec Ideal S8x4096x2048 .f32) (g b : Vec Ideal S1x2048 .f32) (i : Fin 8) (n : Fin 4096) (d : Fin 2048) :
    normed Y g b (ix3 i n d) = norm (fun e => Y (ix3 i n e)) (fun e => g (ix2 0 e)) (fun e => b (ix2 0 e)) d := by
  pointwise [normed, means_at, centred_at]
  rfl

variable (m : (ℓ : Loc nD τ sig) → Buf (Elt Ideal) ℓ) (c : Dev nD)

/-- The reference's result in these steps. -/
theorem res_eq : res_out0 m c = shapeCast S32768x2048 (normed (total (m ((c : Thread nD τ).loc main_arg0))
    (hidden (gateUp (m ((c : Thread nD τ).loc main_arg0)) (m ((c : Thread nD τ).loc main_arg1)))) (m ((c : Thread nD τ).loc main_arg2)))
    (m ((c : Thread nD τ).loc main_arg3)) (m ((c : Thread nD τ).loc main_arg4))) shapeCasts_S8x4096x2048_S32768x2048 := by
  unfold res_out0 res_main_v39 normed centred means total hidden gateUp
  rfl

/-- The last reshape: token `n` of the list is token `n % 4096` of batch `n / 4096`. -/
theorem list_at (Z : FVec Ideal S8x4096x2048 .f32) (n : Fin 32768) (d : Fin 2048) :
    shapeCast S32768x2048 Z shapeCasts_S8x4096x2048_S32768x2048 (ix2 n d) = Z (ix3 ⟨(n : ℕ) / 4096, by omega⟩ ⟨(n : ℕ) % 4096, by omega⟩ d) := by
  pointwise
  blk_ext

/-- The reference's result at token `n`, output `d`. -/
theorem ref_at (n : Fin 32768) (d : Fin 2048) : res_out0 m c (ix2 n d)
    = block (m ((c : Thread nD τ).loc main_arg0)) (m ((c : Thread nD τ).loc main_arg1)) (m ((c : Thread nD τ).loc main_arg2))
        (m ((c : Thread nD τ).loc main_arg3)) (m ((c : Thread nD τ).loc main_arg4)) n d := by
  refine (congrFun (res_eq m c) _).trans ((list_at _ n d).trans ((normed_at _ _ _ _ _ d).trans ?_))
  unfold block
  refine congrArg (fun Y => norm Y _ _ d) (funext fun e => (total_at _ _ _ _ _ e).trans ?_)
  refine congrArg (fun A => resid _ A e) (funext fun e => ?_)
  unfold gain act
  refine Finset.sum_congr rfl fun l _ => congrArg (· * _) ?_
  refine (hidden_at _ _ _ l).trans ?_
  rw [gateUp_at, gateUp_at]

end FfnRef
end
-- ==== Proof.FfnClaim.lean ====
/- The claim about the feed-forward block: the kernel's over the reals is the reference's. -/
module

public import proofs.«01_k».proof.Proof.FfnBlock
public import proofs.«01_k».proof.Proof.FfnRef
public import proofs.«01_k».proof.Defs
public import Idealize.ShloMosaic.Lib.Claim

@[expose] public section

set_option maxRecDepth 16384

noncomputable section

open Idealize.ShloMosaic Idealize.ShloMosaic.TcCoe Idealize.SL.Sem

namespace FfnClaim

/-- The feed-forward block of equal arguments. -/
theorem block_congr {x x' : Vec Ideal Cert.FfnRefIdeal.S8x4096x2048 .f32} {w w' : Vec Ideal Cert.FfnRefIdeal.S1x2048x11264 .f32}
    {v v' : Vec Ideal Cert.FfnRefIdeal.S1x5632x2048 .f32} {g g' b b' : Vec Ideal Cert.FfnRefIdeal.S1x2048 .f32}
    (hx : x = x') (hw : w = w') (hv : v = v') (hg : g = g') (hb : b = b') (n : Fin 32768) (d : Fin 2048) :
    FfnRef.block x w v g b n d = FfnRef.block x' w' v' g' b' n d := by
  subst hx hw hv hg hb
  rfl

set_option maxHeartbeats 1000000 in
/-- Over the reals the kernel's feed-forward block is the reference's. -/
theorem algebraic : Cert.algebraic_FfnIdeal_FfnRefIdeal (hFfnIdeal := Cert.FfnIdeal.Gen.facts)
    (hFfnRefIdeal := Cert.FfnRefIdeal.Gen.facts) := by
  intro m g m' g' hpre hag
  refine ⟨fun c => (Cert.FfnIdeal.Gen.dats m 0 c).arrAt 6 Cert.FfnIdeal.cfg0.N, Cert.FfnIdeal.Value.run_blocks m g, ?_⟩
  refine (θ_run _ _ _).mono (fun r h c => ⟨(h c).1.trans ?_, (h c).2⟩) (Cert.FfnRefIdeal.Value.run m' g')
  obtain ⟨e0, e1, e2, e3, e4⟩ := hag c
  refine Eq.trans ?_ (FfnBlock.final m c).symm
  funext i
  obtain ⟨t, d, rfl⟩ : ∃ (t : Fin 32768) (d : Fin 2048), i = ix2 t d :=
    ⟨i 0, i 1, funext fun z => match z with | ⟨0, _⟩ => rfl | ⟨1, _⟩ => rfl⟩
  exact (FfnRef.ref_at m' c t d).trans (block_congr e0 e1 e2 e3 e4 t d)

end FfnClaim
end
-- ==== Proof.NaMath.lean ====
/- The softmax identity of neighbourhood attention over the extended reals, apart from any program. -/
module

public import Idealize.ShloMosaic.Lib.Pointwise

@[expose] public section

noncomputable section

namespace NaMath

open Idealize.ShloMosaic

/-- A non-negative real factor goes into a finite sum of extended reals, whatever its terms are. -/
theorem sum_mul_real {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
      rw [Finset.sum_insert ha, Finset.sum_insert ha, ← ih]
      exact EReal.right_distrib_of_nonneg_of_ne_top (by exact_mod_cast hr) (EReal.coe_ne_top r) _ _

/-- The weight of a score below or at the largest one, which is real: a real number in the unit interval. -/
theorem weight_real (s : EReal) (M : ℝ) (h : s ≤ (M : EReal)) :
    ∃ r : ℝ, 0 ≤ r ∧ r ≤ 1 ∧ Ideal.exp (s - (M : EReal)) = (r : EReal) := by
  induction s using EReal.rec with
  | bot => exact ⟨0, le_rfl, zero_le_one, by rw [EReal.bot_sub, Ideal.exp_bot, EReal.coe_zero]⟩
  | coe x =>
      refine ⟨Real.exp (x - M), (Real.exp_pos _).le, ?_, by rw [← EReal.coe_sub, Ideal.exp_coe]⟩
      have : x ≤ M := by exact_mod_cast h
      rw [Real.exp_le_one_iff]; linarith
  | top => exact absurd h (by simp)

/-- A masked score has weight zero. -/
theorem weight_bot (M : EReal) : Ideal.exp (⊥ - M) = 0 := by
  rw [EReal.bot_sub, Ideal.exp_bot]

/-- Attention with a softmax over all of `ι`, where the scores outside the range of `f` are masked by `⊥`, is
    attention over the keys `f k` alone, with the division by the weights' sum after the weighted sum of the
    values instead of before it. The scores in the window are bounded by reals, and one of them is real. -/
theorem softmax_window {ι κ : Type} [Fintype ι] [Fintype κ] (f : κ → ι) (hf : Function.Injective f)
    (s : ι → EReal) (v : ι → EReal) (M : EReal)
    (hmask : ∀ i, (∀ k, f k ≠ i) → s i = ⊥) (hle : ∀ i, s i ≤ M)
    (hM : M ≠ ⊤) (hMb : M ≠ ⊥) (hat : ∃ i, s i = M) :
    ∑ i, Ideal.div (Ideal.exp (s i - M)) (∑ j, Ideal.exp (s j - M)) * v i
      = Ideal.div (∑ k, Ideal.exp (s (f k) - M) * v (f k)) (∑ k, Ideal.exp (s (f k) - M)) := by
  classical
  lift M to ℝ using ⟨hM, hMb⟩
  choose r hr0 hr1 hr using fun i => weight_real (s i) M (hle i)
  have hout : ∀ i, (∀ k, f k ≠ i) → r i = 0 := fun i hi => by
    have := hr i
    rw [hmask i hi, weight_bot] at this
    exact_mod_cast this.symm
  have hback : ∀ g : ι → EReal, (∀ i, (∀ k, f k ≠ i) → g i = 0) → ∑ i, g i = ∑ k, g (f k) := fun g hg => by
    rw [← Finset.sum_image (f := g) (s := Finset.univ) (g := f) (fun a _ b _ h => hf h)]
    refine (Finset.sum_subset (Finset.subset_univ _) fun i _ hi => hg i fun k hk => hi ?_).symm
    exact Finset.mem_image.2 ⟨k, Finset.mem_univ _, hk⟩
  simp only [hr]
  have hL : ∑ j, (r j : EReal) = ((∑ j, r j : ℝ) : EReal) := (by classical exact (map_sum (⟨⟨fun x : ℝ => (x : EReal), EReal.coe_zero⟩, EReal.coe_add⟩ : ℝ →+ EReal) _ _).symm)
  obtain ⟨i0, hi0⟩ := hat
  have hone : r i0 = 1 := by
    have := hr i0
    rw [hi0, ← EReal.coe_sub, sub_self, Ideal.exp_coe, Real.exp_zero] at this
    exact_mod_cast this.symm
  have hpos : 0 < ∑ j, r j := lt_of_lt_of_le (by rw [hone]; exact one_pos)
    (Finset.single_le_sum (f := r) (fun j _ => hr0 j) (Finset.mem_univ i0))
  have hK : ∑ k, (r (f k) : EReal) = ((∑ j, r j : ℝ) : EReal) := by
    rw [← hL]
    exact (hback (fun j => (r j : EReal)) fun i hi => by rw [hout i hi, EReal.coe_zero]).symm
  rw [hK, hL, Ideal.div_coe hpos.ne', sum_mul_real _ _ _ (one_div_pos.2 hpos).le]
  simp only [Ideal.div_coe hpos.ne']
  rw [hback _ fun i hi => by rw [hout i hi, EReal.coe_zero, zero_mul, zero_mul]]
  exact Finset.sum_congr rfl fun k _ => mul_right_comm _ _ _

/-- The largest of finitely many scores, taken from `⊥` on, is the largest over the window when the others are masked. -/
theorem sup_window {ι κ : Type} [Fintype ι] [Fintype κ] (f : κ → ι) (s : ι → EReal)
    (hmask : ∀ i, (∀ k, f k ≠ i) → s i = ⊥) :
    Finset.univ.sup s = Finset.univ.sup fun k => s (f k) := by
  apply le_antisymm
  · refine Finset.sup_le fun i _ => ?_
    by_cases h : ∃ k, f k = i
    · obtain ⟨k, rfl⟩ := h
      exact Finset.le_sup (f := fun k => s (f k)) (Finset.mem_univ k)
    · rw [hmask i (by simpa using h)]; exact bot_le
  · exact Finset.sup_le fun k _ => Finset.le_sup (Finset.mem_univ (f k))

/-- The largest of finitely many scores is one of them when one is not `⊥`, and then neither infinity if none is `⊤`. -/
theorem sup_attained {ι : Type} [Fintype ι] (s : ι → EReal) (htop : ∀ i, s i ≠ ⊤) (i0 : ι) (h0 : s i0 ≠ ⊥) :
    (∃ i, s i = Finset.univ.sup s) ∧ Finset.univ.sup s ≠ ⊤ ∧ Finset.univ.sup s ≠ ⊥ := by
  obtain ⟨i, -, hi⟩ := Finset.exists_mem_eq_sup Finset.univ ⟨i0, Finset.mem_univ _⟩ s
  refine ⟨⟨i, hi.symm⟩, hi ▸ htop i, fun h => h0 ?_⟩
  have := Finset.le_sup (f := s) (Finset.mem_univ i0)
  rw [h] at this
  exact le_bot_iff.1 this

/-! ## The window of a token, and its scores -/

/-- The first of the eight key rows that the token `n` sees. -/
def rs (n : ℕ) : ℕ := min 56 (n / 64 - 4)

/-- The first of the sixteen key columns that the token `n` sees. -/
def ws (n : ℕ) : ℕ := min 48 (n % 64 - 8)

/-- The token `m` lies in the window of the token `n`. -/
def Sees (n m : ℕ) : Prop :=
  (rs n ≤ m / 64 ∧ m / 64 < rs n + 8) ∧ (ws n ≤ m % 64 ∧ m % 64 < ws n + 16)

instance (n m : ℕ) : Decidable (Sees n m) := by unfold Sees; infer_instance

/-- A feature of one of the eight heads, as a column of the 1024 wide arrays. -/
def feat (h : Fin 8) (x : Fin 128) : Fin 1024 := ⟨(h : ℕ) * 128 + x, by omega⟩

/-- The score of key `m` for query `n` in head `h`: the scaled product of their features plus the relative
    position's bias if `n` sees `m`, and `⊥` otherwise. -/
def score (Q K : Vec Ideal ⟨3, ![8, 4096, 1024]⟩ .f32) (R : Vec Ideal ⟨3, ![8, 15, 31]⟩ .f32)
    (b h : Fin 8) (n m : Fin 4096) : EReal :=
  if Sees n m then
    (∑ x : Fin 128, Q (ix3 b n (feat h x)) * Ideal.ofBits .f32 1035273459#32 * K (ix3 b m (feat h x)))
      + R (ix3 h ⟨min 14 ((m : ℕ) / 64 + 7 - (n : ℕ) / 64), by omega⟩
          ⟨min 30 ((m : ℕ) % 64 + 15 - (n : ℕ) % 64), by omega⟩)
  else ⊥

end NaMath

end
-- ==== Proof.NaTile.lean ====
/- One block of queries against its twelve rows of keys: the kernel's arithmetic for one (query block, head). -/
module

public import proofs.«01_k».proof.Proof.NaMath
public import proofs.«01_k».proof.Proof.Gen.NaIdeal.Value
public import Idealize.ShloMosaic.Lib.Pointwise
public import Idealize.ShloMosaic.Lib.Pipeline.ValueKit

@[expose] public section

set_option maxRecDepth 16384

noncomputable section

namespace NaTile

open Idealize.ShloMosaic Idealize.ShloMosaic.TcCoe Idealize.SL.Sem
open Cert.NaIdeal Cert.NaIdeal.Gen

/-- The kernel's computation for one block of queries and one head, from the loaded queries, keys, values and the
    bias table. -/
def tile (Q : Vec Ideal S256x128 .bf16) (K V : Vec Ideal S768x128 .bf16) (T : Vec Ideal S1x1x256x768 .f32) :
    FVec Ideal S256x128 .bf16 :=
  k0_pay2 (k0_pay35 (k0_pay12 Q K T)) (k0_pay36 (k0_pay12 Q K T)) V

/-- The block's scores: the products of the features plus the table. -/
theorem score_at (Q : Vec Ideal S256x128 .bf16) (K : Vec Ideal S768x128 .bf16) (T : Vec Ideal S1x1x256x768 .f32)
    (a : Fin 256) (k : Fin 768) : k0_pay12 (F := Ideal) Q K T (ix2 a k)
      = (∑ x : Fin 128, (Q (ix2 a x) : EReal) * K (ix2 k x)) + T (ix4 0 0 a k) := by
  pointwise [k0_pay12]

/-- The largest score of a query, as the kernel takes it over its 768 keys. -/
theorem max_at (S : FVec Ideal S256x768 .f32) (a : Fin 256) :
    multiReduction (F := Ideal) .maximumf [1] S256 S 0xFF800000#32 reduces_S256x768_S256 (.inl rfl) rfl (ix1 a)
      = Finset.univ.sup fun k : Fin 768 => (S (ix2 a k) : EReal) := by
  have hb : FloatOps.ofBits (F := Ideal) .f32 0xFF800000#32 = (⊥ : EReal) := by
    show Ideal.ofBits .f32 0xFF800000#32 = ⊥
    simp [Ideal.ofBits, Ideal.ieee]
  refine (Ideal.multiReduction_maximumf_single S _ reduces_S256x768_S256 (.inl rfl) rfl (ix1 a)).trans ?_
  refine (congrArg (fun z : EReal => Finset.fold max z _ _) hb).trans ?_
  show Finset.fold max ⊥ _ _ = Finset.fold max ⊥ _ _
  congr 1
  funext k
  show S _ = S _
  congr 1
  funext e
  refine Fin.ext ?_
  match e with
  | ⟨0, _⟩ => rfl
  | ⟨1, _⟩ => rfl

/-- The block's weights before they are normalised. -/
theorem exp_at (S : FVec Ideal S256x768 .f32) (a : Fin 256) (k : Fin 768) : k0_pay34 (F := Ideal) S (ix2 a k)
    = Ideal.exp ((S (ix2 a k) : EReal) - Finset.univ.sup fun j : Fin 768 => (S (ix2 a j) : EReal)) := by
  have h := max_at S a
  unfold k0_pay34
  dsimp only
  generalize multiReduction (F := Ideal) .maximumf [1] S256 S 0xFF800000#32 reduces_S256x768_S256 (.inl rfl) rfl = R at h ⊢
  pointwise
  rw [h]

/-- An element of the block's result. -/
theorem tile_at (Q : Vec Ideal S256x128 .bf16) (K V : Vec Ideal S768x128 .bf16) (T : Vec Ideal S1x1x256x768 .f32)
    (a : Fin 256) (d : Fin 128) (s : Fin 768 → EReal)
    (hs : ∀ k : Fin 768, (∑ x : Fin 128, (Q (ix2 a x) : EReal) * K (ix2 k x)) + T (ix4 0 0 a k) = s k) :
    tile Q K V T (ix2 a d)
      = Ideal.div (∑ k : Fin 768, Ideal.exp (s k - Finset.univ.sup s) * V (ix2 k d))
          (∑ k : Fin 768, Ideal.exp (s k - Finset.univ.sup s)) := by
  have hS : s = fun k => k0_pay12 (F := Ideal) Q K T (ix2 a k) := by
    funext k
    rw [score_at, hs]
  subst hS
  unfold tile
  generalize k0_pay12 (F := Ideal) Q K T = S
  pointwise [k0_pay2, k0_pay35, k0_pay36, exp_at]

section

variable (Q : Vec Ideal S256x128 .bf16) (K V : Vec Ideal S768x128 .bf16) (T : Vec Ideal S1x1x256x768 .f32)

/-- The first tile of a grid point is the same function of its loads. -/
theorem tile0 : k0_pay37 (k0_pay14 (k0_pay3 Q K T)) (k0_pay15 (k0_pay3 Q K T)) V = tile Q K V T := rfl

/-- The second tile of a grid point is the same function of its loads. -/
theorem tile1 : k0_pay39 (k0_pay38 (k0_pay17 (k0_pay4 Q K T)) (k0_pay18 (k0_pay4 Q K T)) V) = tile Q K V T := rfl

/-- The third tile of a grid point is the same function of its loads. -/
theorem tile2 : k0_pay40 (k0_pay20 (k0_pay5 Q K T)) (k0_pay21 (k0_pay5 Q K T)) V = tile Q K V T := rfl

/-- The fourth tile of a grid point is the same function of its loads. -/
theorem tile3 : k0_pay41 (k0_pay23 (k0_pay7 (k0_pay6 Q) K T)) (k0_pay24 (k0_pay7 (k0_pay6 Q) K T)) V = tile Q K V T := rfl

/-- The fifth tile of a grid point is the same function of its loads. -/
theorem tile4 : k0_pay42 (k0_pay26 (k0_pay8 Q K T)) (k0_pay27 (k0_pay8 Q K T)) V = tile Q K V T := rfl

/-- The sixth tile of a grid point is the same function of its loads. -/
theorem tile5 : k0_pay43 (k0_pay29 (k0_pay9 Q K T)) (k0_pay30 (k0_pay9 Q K T)) V = tile Q K V T := rfl

/-- The seventh tile of a grid point is the same function of its loads. -/
theorem tile6 : k0_pay1 (k0_pay32 (k0_pay11 (k0_pay10 Q K) T)) (k0_pay33 (k0_pay11 (k0_pay10 Q K) T)) V = tile Q K V T := rfl

end

end NaTile
end
-- ==== Proof.NaTab.lean ====
/- The arrays the host prepares for the attention's kernel: the padded queries, keys and values, and the bias tables. -/
module

public import proofs.«01_k».proof.Proof.NaMath
public import proofs.«01_k».proof.Proof.Gen.NaIdeal.Value
public import Idealize.ShloMosaic.Lib.Pointwise
public import Idealize.ShloMosaic.Lib.StableHlo.RunRead
public import Idealize.ShloMosaic.Lib.Pipeline.ValueKit

@[expose] public section

set_option maxRecDepth 16384

noncomputable section

namespace NaTab

open Idealize.ShloMosaic Idealize.ShloMosaic.TcCoe Idealize.SL.Sem
open Cert.NaIdeal Cert.NaIdeal.Gen

variable (m : (ℓ : Loc nD τ sig) → Buf (Elt Ideal) ℓ) (c : Dev nD)

/-- The bias per query column, for any mask of query columns against key columns: each of the fifteen rows of the bias
    shifted by the query's column, and `-∞` where the mask is off. -/
def masked (L : Vec Ideal S64x64 .i1) (R : Vec Ideal S8x15x31 .f32) : Vec Ideal S8x64x960 .f32 :=
  shapeCast S8x64x960 (transpose S8x64x15x64 [0, 2, 1, 3]
    (select (broadcastInDim S8x15x64x64 ![0, 1, 2, 3] bcast_S1x1x64x64_S8x15x64x64_0_1_2_3
        (broadcastInDim S1x1x64x64 ![2, 3] bcast_S64x64_S1x1x64x64_2_3 L))
      (extractStridedSlice S8x15x64x64 ![0, 0, 0, 0]
        (shapeCast S8x15x64x127 (extractStridedSlice S8x15x8128 ![0, 0, 15]
          (shapeCast S8x15x8192 (broadcastInDim S8x15x64x128 ![0, 1, 2, 3] bcast_S8x15x1x128_S8x15x64x128_0_1_2_3
            (broadcastInDim S8x15x1x128 ![0, 1, 3] bcast_S8x15x128_S8x15x1x128_0_1_3
              (pad S8x15x128 ![0, 0, 0] ![0, 0, 97] ![0, 0, 0] R (sitofp (F := Ideal) .f32 (constantI S_ 32 0#32))
                pads_S8x15x31_S8x15x128_000_000_0970 h_S_))) shapeCasts_S8x15x64x128_S8x15x8192)
          slices_S8x15x8192_S8x15x8128_0_0_15) shapeCasts_S8x15x8128_S8x15x64x127)
        slices_S8x15x64x127_S8x15x64x64_0_0_0_0)
      (broadcastInDim S8x15x64x64 ![] bcast_S_S8x15x64x64 (id (constant (F := Ideal) S_ .f32 0xFF800000#32))))
    transposes_S8x15x64x64_S8x64x15x64_0_2_1_3) shapeCasts_S8x64x15x64_S8x64x960

/-- The bias per query column under the host's mask: the sixteen columns the query sees. -/
def band (R : Vec Ideal S8x15x31 .f32) : Vec Ideal S8x64x960 .f32 := masked (fun i => lit0 (S64x64.rowMajor i)) R

/-- Four query rows' tables stacked into the table of a block of queries. -/
def stack (X0 X1 X2 X3 : Vec Ideal S8x64x768 .f32) : Vec Ideal S1x8x256x768 .f32 :=
  broadcastInDim S1x8x256x768 ![1, 2, 3] bcast_S8x256x768_S1x8x256x768_1_2_3
    (shapeCast S8x256x768 (concatenate S8x4x64x768 1
      [⟨S8x1x64x768, broadcastInDim S8x1x64x768 ![0, 2, 3] bcast_S8x64x768_S8x1x64x768_0_2_3 X0⟩,
       ⟨S8x1x64x768, broadcastInDim S8x1x64x768 ![0, 2, 3] bcast_S8x64x768_S8x1x64x768_0_2_3 X1⟩,
       ⟨S8x1x64x768, broadcastInDim S8x1x64x768 ![0, 2, 3] bcast_S8x64x768_S8x1x64x768_0_2_3 X2⟩,
       ⟨S8x1x64x768, broadcastInDim S8x1x64x768 ![0, 2, 3] bcast_S8x64x768_S8x1x64x768_0_2_3 X3⟩]
      concatenates_S8x1x64x768_S8x1x64x768_S8x1x64x768_S8x1x64x768_S8x4x64x768_d1) shapeCasts_S8x4x64x768_S8x256x768)

/-- The mask value `-∞`, as the tables' padding takes it. -/
abbrev ninf : Vec Ideal S_ .f32 := id (constant (F := Ideal) S_ .f32 0xFF800000#32)

/-- The table of the first block of a grid. -/
def tabFirst (B : Vec Ideal S8x64x960 .f32) : Vec Ideal S1x8x256x768 .f32 :=
  stack (pad S8x64x768 ![0, 0, 0] ![0, 0, 256] ![0, 0, 0] (extractStridedSlice S8x64x512 ![0, 0, 448] B slices_S8x64x960_S8x64x512_0_0_448) ninf pads_S8x64x512_S8x64x768_000_000_02560 h_S_)
    (pad S8x64x768 ![0, 0, 0] ![0, 0, 256] ![0, 0, 0] (extractStridedSlice S8x64x512 ![0, 0, 384] B slices_S8x64x960_S8x64x512_0_0_384) ninf pads_S8x64x512_S8x64x768_000_000_02560 h_S_)
    (pad S8x64x768 ![0, 0, 0] ![0, 0, 256] ![0, 0, 0] (extractStridedSlice S8x64x512 ![0, 0, 320] B slices_S8x64x960_S8x64x512_0_0_320) ninf pads_S8x64x512_S8x64x768_000_000_02560 h_S_)
    (pad S8x64x768 ![0, 0, 0] ![0, 0, 256] ![0, 0, 0] (extractStridedSlice S8x64x512 ![0, 0, 256] B slices_S8x64x960_S8x64x512_0_0_256) ninf pads_S8x64x512_S8x64x768_000_000_02560 h_S_)

/-- The table of the blocks in between. -/
def tabMid (B : Vec Ideal S8x64x960 .f32) : Vec Ideal S1x8x256x768 .f32 :=
  stack (pad S8x64x768 ![0, 0, 0] ![0, 0, 256] ![0, 0, 0] (extractStridedSlice S8x64x512 ![0, 0, 192] B slices_S8x64x960_S8x64x512_0_0_192) ninf pads_S8x64x512_S8x64x768_000_000_02560 h_S_)
    (pad S8x64x768 ![0, 0, 64] ![0, 0, 192] ![0, 0, 0] (extractStridedSlice S8x64x512 ![0, 0, 192] B slices_S8x64x960_S8x64x512_0_0_192) ninf pads_S8x64x512_S8x64x768_000_000_641920 h_S_)
    (pad S8x64x768 ![0, 0, 128] ![0, 0, 128] ![0, 0, 0] (extractStridedSlice S8x64x512 ![0, 0, 192] B slices_S8x64x960_S8x64x512_0_0_192) ninf pads_S8x64x512_S8x64x768_000_000_1281280 h_S_)
    (pad S8x64x768 ![0, 0, 192] ![0, 0, 64] ![0, 0, 0] (extractStridedSlice S8x64x512 ![0, 0, 192] B slices_S8x64x960_S8x64x512_0_0_192) ninf pads_S8x64x512_S8x64x768_000_000_192640 h_S_)

/-- The table of the last block of a grid. -/
def tabLast (B : Vec Ideal S8x64x960 .f32) : Vec Ideal S1x8x256x768 .f32 :=
  stack (pad S8x64x768 ![0, 0, 256] ![0, 0, 0] ![0, 0, 0] (extractStridedSlice S8x64x512 ![0, 0, 192] B slices_S8x64x960_S8x64x512_0_0_192) ninf pads_S8x64x512_S8x64x768_000_000_25600 h_S_)
    (pad S8x64x768 ![0, 0, 256] ![0, 0, 0] ![0, 0, 0] (extractStridedSlice S8x64x512 ![0, 0, 128] B slices_S8x64x960_S8x64x512_0_0_128) ninf pads_S8x64x512_S8x64x768_000_000_25600 h_S_)
    (pad S8x64x768 ![0, 0, 256] ![0, 0, 0] ![0, 0, 0] (extractStridedSlice S8x64x512 ![0, 0, 64] B slices_S8x64x960_S8x64x512_0_0_64) ninf pads_S8x64x512_S8x64x768_000_000_25600 h_S_)
    (pad S8x64x768 ![0, 0, 256] ![0, 0, 0] ![0, 0, 0] (extractStridedSlice S8x64x512 ![0, 0, 0] B slices_S8x64x960_S8x64x512_0_0_0) ninf pads_S8x64x512_S8x64x768_000_000_25600 h_S_)

/-- The three tables, as the kernel is given them. -/
def tables (B : Vec Ideal S8x64x960 .f32) : Vec Ideal S3x8x256x768 .f32 :=
  concatenate S3x8x256x768 0 [⟨S1x8x256x768, tabFirst B⟩, ⟨S1x8x256x768, tabMid B⟩, ⟨S1x8x256x768, tabLast B⟩]
    concatenates_S1x8x256x768_S1x8x256x768_S1x8x256x768_S3x8x256x768_d0

/-- Four arrays stacked along the query rows, each replaced by an equal one. -/
theorem rows_congr {A A' B B' C C' D D' : Vec Ideal S8x1x64x768 .f32} (hA : A = A') (hB : B = B') (hC : C = C') (hD : D = D') :
    broadcastInDim S1x8x256x768 ![1, 2, 3] bcast_S8x256x768_S1x8x256x768_1_2_3
      (shapeCast S8x256x768 (concatenate S8x4x64x768 1 [⟨S8x1x64x768, A⟩, ⟨S8x1x64x768, B⟩, ⟨S8x1x64x768, C⟩, ⟨S8x1x64x768, D⟩]
        concatenates_S8x1x64x768_S8x1x64x768_S8x1x64x768_S8x1x64x768_S8x4x64x768_d1) shapeCasts_S8x4x64x768_S8x256x768)
    = broadcastInDim S1x8x256x768 ![1, 2, 3] bcast_S8x256x768_S1x8x256x768_1_2_3
      (shapeCast S8x256x768 (concatenate S8x4x64x768 1 [⟨S8x1x64x768, A'⟩, ⟨S8x1x64x768, B'⟩, ⟨S8x1x64x768, C'⟩, ⟨S8x1x64x768, D'⟩]
        concatenates_S8x1x64x768_S8x1x64x768_S8x1x64x768_S8x1x64x768_S8x4x64x768_d1) shapeCasts_S8x4x64x768_S8x256x768) := by
  subst hA hB hC hD
  rfl

/-- Three tables put one after the other, each replaced by an equal one. -/
theorem types_congr {A A' B B' C C' : Vec Ideal S1x8x256x768 .f32} (hA : A = A') (hB : B = B') (hC : C = C') :
    concatenate S3x8x256x768 0 [⟨S1x8x256x768, A⟩, ⟨S1x8x256x768, B⟩, ⟨S1x8x256x768, C⟩]
      concatenates_S1x8x256x768_S1x8x256x768_S1x8x256x768_S3x8x256x768_d0
    = concatenate S3x8x256x768 0 [⟨S1x8x256x768, A'⟩, ⟨S1x8x256x768, B'⟩, ⟨S1x8x256x768, C'⟩]
      concatenates_S1x8x256x768_S1x8x256x768_S1x8x256x768_S3x8x256x768_d0 := by
  subst hA hB hC
  rfl

set_option maxHeartbeats 2000000 in
/-- The host leaves the bias per query column in a buffer of its own. -/
theorem V_band : V m c main_v18 = band (m ((c : Thread nD τ).loc main_arg3)) := by
  unfold V
  after_reads_simp
  rfl

set_option maxHeartbeats 2000000 in
/-- The host leaves the three tables in the buffer the kernel reads. -/
theorem V_tables : V m c main_v64 = tables (V m c main_v18) := by
  unfold V
  after_reads_simp
  refine types_congr ?_ ?_ ?_
  · change StableHlo.upto _ _ _ (Proc.devRef .tc main_v61) = _
    after_reads_simp
    refine rows_congr ?_ ?_ ?_ ?_
    · change StableHlo.upto _ _ _ (Proc.devRef .tc main_v27) = _
      after_reads_simp
      rfl
    · change StableHlo.upto _ _ _ (Proc.devRef .tc main_v28) = _
      after_reads_simp
      rfl
    · change StableHlo.upto _ _ _ (Proc.devRef .tc main_v29) = _
      after_reads_simp
      rfl
    · change StableHlo.upto _ _ _ (Proc.devRef .tc main_v30) = _
      after_reads_simp
      rfl
  · change StableHlo.upto _ _ _ (Proc.devRef .tc main_v62) = _
    after_reads_simp
    refine rows_congr ?_ ?_ ?_ ?_
    · change StableHlo.upto _ _ _ (Proc.devRef .tc main_v41) = _
      after_reads_simp
      rfl
    · change StableHlo.upto _ _ _ (Proc.devRef .tc main_v42) = _
      after_reads_simp
      rfl
    · change StableHlo.upto _ _ _ (Proc.devRef .tc main_v43) = _
      after_reads_simp
      rfl
    · change StableHlo.upto _ _ _ (Proc.devRef .tc main_v44) = _
      after_reads_simp
      rfl
  · change StableHlo.upto _ _ _ (Proc.devRef .tc main_v63) = _
    after_reads_simp
    refine rows_congr ?_ ?_ ?_ ?_
    · change StableHlo.upto _ _ _ (Proc.devRef .tc main_v55) = _
      after_reads_simp
      rfl
    · change StableHlo.upto _ _ _ (Proc.devRef .tc main_v56) = _
      after_reads_simp
      rfl
    · change StableHlo.upto _ _ _ (Proc.devRef .tc main_v57) = _
      after_reads_simp
      rfl
    · change StableHlo.upto _ _ _ (Proc.devRef .tc main_v58) = _
      after_reads_simp
      rfl

/-- The padded array for any three arrays put side by side. -/
def padded (A B C : Vec Ideal S32768x1024 .f32) : Vec Ideal S32768x11264 .bf16 :=
  pad S32768x11264 ![0, 4096] ![0, 4096] ![0, 0]
    (truncf (F := Ideal) (φ := .f32) .bf16 (concatenate S32768x3072 1 [⟨S32768x1024, A⟩, ⟨S32768x1024, B⟩, ⟨S32768x1024, C⟩]
      concatenates_S32768x1024_S32768x1024_S32768x1024_S32768x3072_d1) bitsLt_bf16_f32)
    (sitofp (F := Ideal) .bf16 (constantI S_ 32 0#32)) pads_S32768x3072_S32768x11264_000_409640960 h_S_

/-- The padded array with each part replaced by an equal one. -/
theorem padded_congr {A A' B B' C C' : Vec Ideal S32768x1024 .f32} (hA : A = A') (hB : B = B') (hC : C = C') :
    padded A B C = padded A' B' C' := by
  subst hA hB hC
  rfl

/-- The padded array of queries, keys and values that the kernel reads, as the host composes it. -/
def qkv (Q K W : Vec Ideal S8x4096x1024 .f32) : Vec Ideal S32768x11264 .bf16 :=
  padded (shapeCast S32768x1024 (mulf (F := Ideal) (φ := .f32) Q
      (broadcastInDim S8x4096x1024 ![] bcast_S_S8x4096x1024 (constant (F := Ideal) S_ .f32 0x3DB504F3#32))) shapeCasts_S8x4096x1024_S32768x1024)
    (shapeCast S32768x1024 K shapeCasts_S8x4096x1024_S32768x1024)
    (shapeCast S32768x1024 W shapeCasts_S8x4096x1024_S32768x1024)

set_option maxHeartbeats 2000000 in
/-- The host leaves that array in the buffer the kernel reads. -/
theorem V_qkv : V m c main_v7 = qkv (m ((c : Thread nD τ).loc main_arg0)) (m ((c : Thread nD τ).loc main_arg1))
    (m ((c : Thread nD τ).loc main_arg2)) := by
  unfold V
  after_reads_simp
  refine padded_congr (A := StableHlo.upto _ _ _ (Proc.devRef .tc main_v2)) (B := StableHlo.upto _ _ _ (Proc.devRef .tc main_v3))
    (C := StableHlo.upto _ _ _ (Proc.devRef .tc main_v4)) ?_ ?_ ?_
  all_goals
    after_reads_simp
    rfl

end NaTab
end
-- ==== Proof.NaTabAt.lean ====
/- The arrays the host prepares for the attention's kernel, read element by element. -/
module

public import proofs.«01_k».proof.Proof.NaTab

@[expose] public section

set_option maxRecDepth 16384

noncomputable section

namespace NaTab

open Idealize.ShloMosaic Idealize.ShloMosaic.TcCoe Idealize.SL.Sem
open Cert.NaIdeal Cert.NaIdeal.Gen

variable (Q K W : Vec Ideal S8x4096x1024 .f32)

/-- The scaled queries in the padded array. -/
theorem q_at (r : Fin 32768) (x : Fin 1024) : qkv Q K W (ix2 r ⟨4096 + x, by omega⟩)
    = (Q (ix3 ⟨(r : ℕ) / 4096, by omega⟩ ⟨(r : ℕ) % 4096, by omega⟩ x) : EReal) * Ideal.ofBits .f32 1035273459#32 := by
  pointwise [qkv, padded]
  exact dif_pos (by omega)

/-- The keys in the padded array. -/
theorem k_at (r : Fin 32768) (x : Fin 1024) : qkv Q K W (ix2 r ⟨5120 + x, by omega⟩)
    = (K (ix3 ⟨(r : ℕ) / 4096, by omega⟩ ⟨(r : ℕ) % 4096, by omega⟩ x) : EReal) := by
  pointwise [qkv, padded]
  rw [dif_pos (by omega), dif_neg (by omega), dif_pos (by omega)]
  exact congrArg (fun z => K (ix3 _ _ z)) (Fin.ext (show 5120 + (x : ℕ) - 4096 - 1024 = x by omega))

/-- The values in the padded array. -/
theorem v_at (r : Fin 32768) (x : Fin 1024) : qkv Q K W (ix2 r ⟨6144 + x, by omega⟩)
    = (W (ix3 ⟨(r : ℕ) / 4096, by omega⟩ ⟨(r : ℕ) % 4096, by omega⟩ x) : EReal) := by
  pointwise [qkv, padded]
  rw [dif_pos (by omega), dif_neg (by omega), dif_neg (by omega)]
  exact congrArg (fun z => W (ix3 _ _ z)) (Fin.ext (show 6144 + (x : ℕ) - 4096 - 1024 - 1024 = x by omega))

/-- The word `-∞` is `⊥`. -/
theorem ofBits_ninf : Ideal.ofBits .f32 4286578688#32 = (⊥ : EReal) := by simp [Ideal.ofBits, Ideal.ieee]

/-- The columns a query column sees, as the host's literal lists them. -/
theorem lit_at : ∀ a b : Fin 64, lit0 (S64x64.rowMajor (ix2 a b))
    = BitVec.ofBool (decide (min 48 ((a : ℕ) - 8) ≤ b ∧ (b : ℕ) < min 48 ((a : ℕ) - 8) + 16)) := by
  change ∀ a b : Fin 64, @Eq (BitVec 1) _ _
  decide +kernel

/-- A choice on a condition's bit. -/
theorem select_bit (p : Prop) [Decidable p] (A B : EReal) :
    Scalar.select (BitVec.ofBool (decide p)) A B = if p then A else B := by
  by_cases hp : p <;> simp [hp, Scalar.select]

/-- A value read inside a bound, at an index known to be below it. -/
theorem dif_fin {N : ℕ} (Z : Fin N → EReal) (y : EReal) (w : ℕ) (u : Fin N) (e : w = u) : (if hw : w < N then Z ⟨w, hw⟩ else y) = Z u := by
  subst e
  exact dif_pos u.isLt

/-- The masked bias at an element. -/
theorem masked_at (L : Vec Ideal S64x64 .i1) (R : Vec Ideal S8x15x31 .f32) (h : Fin 8) (a : Fin 64) (r : Fin 15) (b : Fin 64)
    (p : Prop) [Decidable p] (hL : L (ix2 a b) = BitVec.ofBool (decide p)) (u : Fin 31)
    (hu : p → (15 + ((a : ℕ) * 127 + b)) % 128 = u) :
    masked L R (ix3 h a ⟨(r : ℕ) * 64 + b, by omega⟩) = if p then (R (ix3 h r u) : EReal) else ⊥ := by
  pointwise [masked]
  refine (congrArg (fun w => Scalar.select w _ _) hL).trans ?_
  refine (select_bit _ _ _).trans ?_
  by_cases hs : p
  · refine (if_pos hs).trans (Eq.trans ?_ (if_pos hs).symm)
    exact dif_fin (fun z => R (ix3 h r z)) _ _ u (hu hs)
  · exact (if_neg hs).trans (Eq.trans ofBits_ninf (if_neg hs).symm)

/-- The bias of a query column against a key column, in each of the fifteen rows. -/
theorem band_at (R : Vec Ideal S8x15x31 .f32) (h : Fin 8) (a : Fin 64) (r : Fin 15) (b : Fin 64) :
    band R (ix3 h a ⟨(r : ℕ) * 64 + b, by omega⟩)
      = if min 48 ((a : ℕ) - 8) ≤ b ∧ (b : ℕ) < min 48 ((a : ℕ) - 8) + 16 then
          (R (ix3 h r ⟨min 30 ((b : ℕ) + 15 - a), by omega⟩) : EReal) else ⊥ :=
  masked_at _ R h a r b _ (lit_at a b) _ fun hs => by
    show _ = min 30 ((b : ℕ) + 15 - a)
    omega

/-- Four query rows' tables, stacked: the row `a * 64 + q` is the row `q` of the table `a`. -/
theorem stack_at (X : Fin 4 → Vec Ideal S8x64x768 .f32) (h : Fin 8) (a : Fin 4) (q : Fin 64) (k : Fin 768) :
    stack (X 0) (X 1) (X 2) (X 3) (ix4 0 h ⟨(a : ℕ) * 64 + q, by omega⟩ k) = X a (ix3 h q k) := by
  fin_cases a
  all_goals
    pointwise [stack]
    repeat' split
    all_goals first
      | omega
      | exact congrArg (fun z => X _ (ix3 h z k)) (Fin.ext (by simp <;> omega))

/-- `stack_at` at one of the four tables, named. -/
theorem stack_get (X0 X1 X2 X3 Y : Vec Ideal S8x64x768 .f32) (h : Fin 8) (a : Fin 4) (q : Fin 64) (k : Fin 768)
    (hY : ![X0, X1, X2, X3] a = Y) :
    stack X0 X1 X2 X3 (ix4 0 h ⟨(a : ℕ) * 64 + q, by omega⟩ k) = Y (ix3 h q k) :=
  hY ▸ stack_at ![X0, X1, X2, X3] h a q k

variable (B : Vec Ideal S8x64x960 .f32)

/-- The padding of the tables is `⊥`. -/
theorem ninf_at (i : S_.Idx) : ninf i = (⊥ : EReal) := ofBits_ninf

/-- The first block's table: the query row `a` sees the loaded key rows from the first on. -/
theorem first_at (h : Fin 8) (a : Fin 4) (q : Fin 64) (k : Fin 768) : tabFirst B (ix4 0 h ⟨(a : ℕ) * 64 + q, by omega⟩ k)
    = if hk : (k : ℕ) < 512 then (B (ix3 h q ⟨(7 - (a : ℕ)) * 64 + k, by omega⟩) : EReal) else ⊥ := by
  fin_cases a
  all_goals
    refine (stack_get _ _ _ _ _ h _ q k rfl).trans ?_
    pointwise
    rw [ninf_at]

/-- The table of the blocks in between: the query row `a` sees eight of the loaded key rows, from its own number on. -/
theorem mid_at (h : Fin 8) (a : Fin 4) (q : Fin 64) (k : Fin 768) : tabMid B (ix4 0 h ⟨(a : ℕ) * 64 + q, by omega⟩ k)
    = if hk : (a : ℕ) * 64 ≤ k ∧ (k : ℕ) - (a : ℕ) * 64 < 512 then
        (B (ix3 h q ⟨192 + ((k : ℕ) - (a : ℕ) * 64), by omega⟩) : EReal) else ⊥ := by
  fin_cases a
  all_goals
    refine (stack_get _ _ _ _ _ h _ q k rfl).trans ?_
    pointwise
    rw [ninf_at]
    try simp

/-- The last block's table: the query row `a` sees the last eight of the loaded key rows. -/
theorem last_at (h : Fin 8) (a : Fin 4) (q : Fin 64) (k : Fin 768) : tabLast B (ix4 0 h ⟨(a : ℕ) * 64 + q, by omega⟩ k)
    = if hk : 256 ≤ (k : ℕ) ∧ (k : ℕ) - 256 < 512 then
        (B (ix3 h q ⟨(3 - (a : ℕ)) * 64 + ((k : ℕ) - 256), by omega⟩) : EReal) else ⊥ := by
  fin_cases a
  all_goals
    refine (stack_get _ _ _ _ _ h _ q k rfl).trans ?_
    pointwise
    rw [ninf_at]
    try simp

/-- The first of the three tables. -/
theorem tables_at0 (h : Fin 8) (a : Fin 256) (k : Fin 768) : tables B (ix4 0 h a k) = tabFirst B (ix4 0 h a k) := by
  pointwise [tables]

/-- The second of the three tables. -/
theorem tables_at1 (h : Fin 8) (a : Fin 256) (k : Fin 768) : tables B (ix4 1 h a k) = tabMid B (ix4 0 h a k) := by
  pointwise [tables]

/-- The third of the three tables. -/
theorem tables_at2 (h : Fin 8) (a : Fin 256) (k : Fin 768) : tables B (ix4 2 h a k) = tabLast B (ix4 0 h a k) := by
  pointwise [tables]

end NaTab
end
-- ==== Proof.NaCore.lean ====
/- One tile of the kernel is the attention of its queries: the window lies in the loaded rows, and what lies outside it
   has weight zero. -/
module

public import proofs.«01_k».proof.Proof.NaTile
public import proofs.«01_k».proof.Proof.NaTabAt

@[expose] public section

set_option maxRecDepth 16384

noncomputable section

namespace NaCore

open Idealize.ShloMosaic Idealize.ShloMosaic.TcCoe Idealize.SL.Sem
open Cert.NaIdeal Cert.NaIdeal.Gen NaMath

/-- Attention over all keys, as the reference writes it: the values weighted by the normalised exponentials of the masked
    scores. -/
def plain (Q K W : Vec Ideal S8x4096x1024 .f32) (R : Vec Ideal S8x15x31 .f32) (b h : Fin 8) (n : Fin 4096) (d : Fin 1024) : EReal :=
  ∑ x : Fin 4096, W (ix3 b x d) * Ideal.div (Ideal.exp (score Q K R b h n x - Finset.univ.sup fun j => score Q K R b h n j))
    (∑ y : Fin 4096, Ideal.exp (score Q K R b h n y - Finset.univ.sup fun j => score Q K R b h n j))

/-- The first key row loaded for the `g`-th block of four query rows. -/
def start (g : ℕ) : ℕ := min 52 (4 * g - 4)

/-- A position's entry of the padded table is the bias of the two tokens' relative position where the query sees the key,
    and `⊥` elsewhere. -/
theorem tab_row (R : Vec Ideal S8x15x31 .f32) (h : Fin 8) (n m : Fin 4096) (q : Fin 64) (P : Prop) [Decidable P] (u : P → Fin 960)
    (hq : (q : ℕ) = (n : ℕ) % 64) (hP : P ↔ rs n ≤ (m : ℕ) / 64 ∧ (m : ℕ) / 64 < rs n + 8)
    (hu : ∀ w, (u w : ℕ) = min 14 ((m : ℕ) / 64 + 7 - (n : ℕ) / 64) * 64 + (m : ℕ) % 64) :
    (if w : P then (NaTab.band R (ix3 h q (u w)) : EReal) else ⊥)
      = if Sees n m then (R (ix3 h ⟨min 14 ((m : ℕ) / 64 + 7 - (n : ℕ) / 64), by omega⟩
          ⟨min 30 ((m : ℕ) % 64 + 15 - (n : ℕ) % 64), by omega⟩) : EReal) else ⊥ := by
  by_cases w : P
  · have e : u w = ⟨(⟨min 14 ((m : ℕ) / 64 + 7 - (n : ℕ) / 64), by omega⟩ : Fin 15) * 64 + (⟨(m : ℕ) % 64, by omega⟩ : Fin 64),
        by simp only; omega⟩ := Fin.ext (hu w)
    rw [dif_pos w, e, NaTab.band_at]
    have hc : Sees n m ↔ (min 48 ((q : ℕ) - 8) ≤ (m : ℕ) % 64 ∧ (m : ℕ) % 64 < min 48 ((q : ℕ) - 8) + 16) := by
      rw [hq]
      exact ⟨fun z => z.2, fun z => ⟨hP.mp w, z⟩⟩
    refine if_congr hc.symm ?_ rfl
    exact congrArg (fun z => R (ix3 h _ z)) (Fin.ext (by simp only; rw [hq]))
  · rw [dif_neg w, if_neg fun z => w (hP.mpr z.1)]

/-- The first block's table against the tokens it stands for. -/
theorem first_sees (R : Vec Ideal S8x15x31 .f32) (h : Fin 8) (a : Fin 256) (k : Fin 768) (n m : Fin 4096)
    (hn : (n : ℕ) = a) (hm : (m : ℕ) = k) : NaTab.tables (NaTab.band R) (ix4 0 h a k)
      = if Sees n m then (R (ix3 h ⟨min 14 ((m : ℕ) / 64 + 7 - (n : ℕ) / 64), by omega⟩
          ⟨min 30 ((m : ℕ) % 64 + 15 - (n : ℕ) % 64), by omega⟩) : EReal) else ⊥ := by
  have e : a = ⟨(⟨(a : ℕ) / 64, by omega⟩ : Fin 4) * 64 + (⟨(a : ℕ) % 64, by omega⟩ : Fin 64), by simp only; omega⟩ :=
    Fin.ext (by simp only; omega)
  rw [NaTab.tables_at0, e, NaTab.first_at]
  refine tab_row R h n m _ _ _ ?_ ?_ fun w => ?_
  all_goals
    simp only [rs]
    omega

/-- The middle blocks' table against the tokens it stands for. -/
theorem mid_sees (R : Vec Ideal S8x15x31 .f32) (h : Fin 8) (a : Fin 256) (k : Fin 768) (n m : Fin 4096) (g : ℕ) (h0 : 0 < g) (h1 : g < 15)
    (hn : (n : ℕ) = g * 256 + a) (hm : (m : ℕ) = start g * 64 + k) : NaTab.tables (NaTab.band R) (ix4 1 h a k)
      = if Sees n m then (R (ix3 h ⟨min 14 ((m : ℕ) / 64 + 7 - (n : ℕ) / 64), by omega⟩
          ⟨min 30 ((m : ℕ) % 64 + 15 - (n : ℕ) % 64), by omega⟩) : EReal) else ⊥ := by
  have e : a = ⟨(⟨(a : ℕ) / 64, by omega⟩ : Fin 4) * 64 + (⟨(a : ℕ) % 64, by omega⟩ : Fin 64), by simp only; omega⟩ :=
    Fin.ext (by simp only; omega)
  unfold start at hm
  rw [NaTab.tables_at1, e, NaTab.mid_at]
  refine tab_row R h n m _ _ _ ?_ ?_ fun w => ?_
  · simp only
    omega
  · simp only [rs]
    omega
  · have w' := w
    simp only at w' ⊢
    omega

/-- The last block's table against the tokens it stands for. -/
theorem last_sees (R : Vec Ideal S8x15x31 .f32) (h : Fin 8) (a : Fin 256) (k : Fin 768) (n m : Fin 4096)
    (hn : (n : ℕ) = 15 * 256 + a) (hm : (m : ℕ) = 52 * 64 + k) : NaTab.tables (NaTab.band R) (ix4 2 h a k)
      = if Sees n m then (R (ix3 h ⟨min 14 ((m : ℕ) / 64 + 7 - (n : ℕ) / 64), by omega⟩
          ⟨min 30 ((m : ℕ) % 64 + 15 - (n : ℕ) % 64), by omega⟩) : EReal) else ⊥ := by
  have e : a = ⟨(⟨(a : ℕ) / 64, by omega⟩ : Fin 4) * 64 + (⟨(a : ℕ) % 64, by omega⟩ : Fin 64), by simp only; omega⟩ :=
    Fin.ext (by simp only; omega)
  rw [NaTab.tables_at2, e, NaTab.last_at]
  refine tab_row R h n m _ _ _ ?_ ?_ fun w => ?_
  all_goals
    simp only [rs] at *
    omega

/-- The scale the queries are multiplied by is a real number. -/
theorem scale_real : ∃ r : ℝ, Ideal.ofBits .f32 1035273459#32 = (r : EReal) := by
  simp [Ideal.ofBits, Ideal.ieee]
  exact ⟨_, (EReal.coe_mul _ _).symm⟩

/-- With finite queries, keys and bias every score is below `⊤`, and that of a key the query sees is real. -/
theorem score_real (Q K : Vec Ideal S8x4096x1024 .f32) (R : Vec Ideal S8x15x31 .f32)
    (hQ : ∀ i, ∃ r : ℝ, Q i = (r : EReal)) (hK : ∀ i, ∃ r : ℝ, K i = (r : EReal)) (hR : ∀ i, ∃ r : ℝ, R i = (r : EReal))
    (b h : Fin 8) (n m : Fin 4096) : (Sees n m → ∃ r : ℝ, score Q K R b h n m = (r : EReal)) ∧ score Q K R b h n m ≠ ⊤ := by
  obtain ⟨c, hc⟩ := scale_real
  choose q hq using hQ
  choose k hk using hK
  choose r hr using hR
  have key : Sees n m → ∃ r : ℝ, score Q K R b h n m = (r : EReal) := by
    intro hs
    unfold score
    rw [if_pos hs]
    refine ⟨(∑ x : Fin 128, q (ix3 b n (feat h x)) * c * k (ix3 b m (feat h x)))
      + r (ix3 h ⟨min 14 ((m : ℕ) / 64 + 7 - (n : ℕ) / 64), by omega⟩ ⟨min 30 ((m : ℕ) % 64 + 15 - (n : ℕ) % 64), by omega⟩), ?_⟩
    simp only [hq, hk, hr, hc]
    rw [EReal.coe_add]
    congr 1
  refine ⟨key, ?_⟩
  by_cases hs : Sees n m
  · obtain ⟨z, hz⟩ := key hs
    rw [hz]
    exact EReal.coe_ne_top z
  · unfold score
    rw [if_neg hs]
    exact bot_ne_top

/-- One element of a tile, from what the tile's loads hold: it is the attention of that query over all keys. -/
theorem core (Qa Ka Wa : Vec Ideal S8x4096x1024 .f32) (R : Vec Ideal S8x15x31 .f32)
    (hQf : ∀ i, ∃ r : ℝ, Qa i = (r : EReal)) (hKf : ∀ i, ∃ r : ℝ, Ka i = (r : EReal)) (hRf : ∀ i, ∃ r : ℝ, R i = (r : EReal))
    (b h : Fin 8) (g : ℕ) (hg : g < 16) (a : Fin 256) (d : Fin 128) (n : Fin 4096) (hn : (n : ℕ) = g * 256 + a)
    (Q : Vec Ideal S256x128 .bf16) (K V : Vec Ideal S768x128 .bf16) (T : Vec Ideal S1x1x256x768 .f32)
    (f : Fin 768 → Fin 4096) (hf : ∀ k, (f k : ℕ) = start g * 64 + k)
    (hQ : ∀ x : Fin 128, Q (ix2 a x) = (Qa (ix3 b n (feat h x)) : EReal) * Ideal.ofBits .f32 1035273459#32)
    (hK : ∀ (k : Fin 768) (x : Fin 128), K (ix2 k x) = (Ka (ix3 b (f k) (feat h x)) : EReal))
    (hV : ∀ k : Fin 768, V (ix2 k d) = (Wa (ix3 b (f k) (feat h d)) : EReal))
    (hT : ∀ k : Fin 768, T (ix4 0 0 a k) = if Sees n (f k) then (R (ix3 h ⟨min 14 ((f k : ℕ) / 64 + 7 - (n : ℕ) / 64), by omega⟩
          ⟨min 30 ((f k : ℕ) % 64 + 15 - (n : ℕ) % 64), by omega⟩) : EReal) else ⊥) :
    NaTile.tile Q K V T (ix2 a d) = plain Qa Ka Wa R b h n (feat h d) := by
  have hs : ∀ k : Fin 768, (∑ x : Fin 128, (Q (ix2 a x) : EReal) * K (ix2 k x)) + T (ix4 0 0 a k) = score Qa Ka R b h n (f k) := by
    intro k
    rw [hT k]
    unfold score
    by_cases hse : Sees n (f k)
    · rw [if_pos hse, if_pos hse]
      congr 1
      refine Finset.sum_congr rfl fun x _ => ?_
      rw [hQ, hK]
    · rw [if_neg hse, if_neg hse]
      exact EReal.add_bot _
  rw [NaTile.tile_at Q K V T a d (fun k => score Qa Ka R b h n (f k)) hs]
  have hinj : Function.Injective f := by
    intro k k' e
    have := hf k
    rw [e, hf k'] at this
    exact Fin.ext (by omega)
  have hmask : ∀ i, (∀ k, f k ≠ i) → score Qa Ka R b h n i = ⊥ := by
    intro i hi
    unfold score
    refine if_neg fun hse => ?_
    have h1 := hse.1
    unfold rs at h1
    unfold start at hf
    have hlt : (i : ℕ) - min 52 (4 * g - 4) * 64 < 768 := by omega
    refine hi ⟨(i : ℕ) - min 52 (4 * g - 4) * 64, hlt⟩ (Fin.ext ?_)
    rw [hf]
    simp only
    omega
  have hself : Sees n n := by
    unfold Sees rs ws
    omega
  obtain ⟨z, hz⟩ := (score_real Qa Ka R hQf hKf hRf b h n n).1 hself
  obtain ⟨hat, hM, hMb⟩ := sup_attained (score Qa Ka R b h n) (fun i => (score_real Qa Ka R hQf hKf hRf b h n i).2) n
    (by rw [hz]; exact EReal.coe_ne_bot z)
  have hw := softmax_window f hinj (score Qa Ka R b h n) (fun x => Wa (ix3 b x (feat h d))) _ hmask
    (fun i => Finset.le_sup (f := score Qa Ka R b h n) (Finset.mem_univ i)) hM hMb hat
  unfold plain
  refine Eq.trans ?_ ((Finset.sum_congr rfl fun x _ => mul_comm _ _).trans hw).symm
  rw [← sup_window f (score Qa Ka R b h n) hmask]
  simp only [hV]

end NaCore
end
-- ==== Proof.NaLoad.lean ====
/- What the kernel's tiles load: where in the padded array and in the tables each load lies. -/
module

public import proofs.«01_k».proof.Proof.NaCore
public import proofs.«01_k».proof.Proof.Gen.NaIdeal.Value
public import Idealize.ShloMosaic.Lib.Pointwise
public import Idealize.ShloMosaic.Lib.Pipeline.ValueKit

@[expose] public section

set_option maxRecDepth 16384

noncomputable section

namespace NaLoad

open Idealize.ShloMosaic Idealize.ShloMosaic.TcCoe Idealize.SL.Sem
open Cert.NaIdeal Cert.NaIdeal.Gen NaMath NaCore

variable (m : (ℓ : Loc nD τ sig) → Buf (Elt Ideal) ℓ) (c : Dev nD)

/-- The rows the kernel loads for a head pair's first head start at the block's first key row. -/
theorem off1 : ∀ (i : grid0.Coords) (r : Fin 4), k0_off1 i (BitVec.ofNat 32 r.val) = ![start (4 * (i 2).val + r) * 64, 0] := by
  decide +kernel

/-- The same for the second head of the pair, whose columns are the upper half. -/
theorem off2 : ∀ (i : grid0.Coords) (r : Fin 4), k0_off2 i (BitVec.ofNat 32 r.val) = ![start (4 * (i 2).val + r) * 64, 128] := by
  decide +kernel

/-- Which block of its array each window stages at a grid point. -/
theorem idx_val : ∀ t : Fin cfg0.N, win0_0.index t = ![t.val / 16 * 4 + t.val % 4, 16 + t.val / 4 % 4]
    ∧ win0_1.index t = ![t.val / 16, 20 + t.val / 4 % 4] ∧ win0_2.index t = ![t.val / 16, 24 + t.val / 4 % 4]
    ∧ win0_3.index t = ![if t.val % 4 = 0 then 0 else 1, t.val / 4 % 4, 0, 0]
    ∧ win0_4.index t = ![1, t.val / 4 % 4, 0, 0]
    ∧ win0_5.index t = ![if t.val % 4 = 3 then 2 else 1, t.val / 4 % 4, 0, 0]
    ∧ win0_6.index t = ![t.val / 16 * 4 + t.val % 4, t.val / 4 % 4] :=
  (by decide +kernel : ∀ t : Fin grid0.N, _)

/-- The last grid coordinate counts the blocks of 1024 query rows. -/
theorem coord2 : ∀ t : Fin cfg0.N, ((grid0.coords t) 2).val = t.val % 4 := (by decide +kernel : ∀ t : Fin grid0.N, _)

/-- The queries a tile loads. -/
theorem q_ld (t : Fin cfg0.N) (blk : Fin 4) (hd : Fin 2) (o : Fin 2 → ℕ) (ho : o = ![(blk : ℕ) * 256, (hd : ℕ) * 128])
    (ib : ∀ a, o a + S256x128.size a ≤ S1024x256.size a) (a : Fin 256) (x : Fin 128) :
    View.ld (iblk m c 0 t) (Rect.unit o ![256, 128] ib) (ix2 a x)
      = V m c main_v7 (ix2 ⟨((t : ℕ) / 16 * 4 + (t : ℕ) % 4) * 1024 + ((blk : ℕ) * 256 + a), by have := lt_of_lt_of_eq t.isLt N_0; omega⟩
          ⟨4096 + (((t : ℕ) / 4 % 4 * 2 + hd) * 128 + x), by omega⟩) := by
  subst ho
  have ht := idx_val t
  pointwise [iblk]
  blk_ext [idx_val t]

/-- The keys a tile loads. -/
theorem k_ld (t : Fin cfg0.N) (g : ℕ) (hg : g < 16) (hd : Fin 2) (o : Fin 2 → ℕ) (ho : o = ![start g * 64, (hd : ℕ) * 128])
    (ib : ∀ a, o a + S768x128.size a ≤ S4096x256.size a) (k : Fin 768) (x : Fin 128) :
    View.ld (iblk m c 1 t) (Rect.unit o ![768, 128] ib) (ix2 k x)
      = V m c main_v7 (ix2 ⟨(t : ℕ) / 16 * 4096 + (start g * 64 + k), by
            have := lt_of_lt_of_eq t.isLt N_0; unfold start; omega⟩
          ⟨5120 + (((t : ℕ) / 4 % 4 * 2 + hd) * 128 + x), by omega⟩) := by
  subst ho
  have ht := idx_val t
  pointwise [iblk]
  blk_ext [idx_val t]

/-- The values a tile loads. -/
theorem v_ld (t : Fin cfg0.N) (g : ℕ) (hg : g < 16) (hd : Fin 2) (o : Fin 2 → ℕ) (ho : o = ![start g * 64, (hd : ℕ) * 128])
    (ib : ∀ a, o a + S768x128.size a ≤ S4096x256.size a) (k : Fin 768) (x : Fin 128) :
    View.ld (iblk m c 2 t) (Rect.unit o ![768, 128] ib) (ix2 k x)
      = V m c main_v7 (ix2 ⟨(t : ℕ) / 16 * 4096 + (start g * 64 + k), by
            have := lt_of_lt_of_eq t.isLt N_0; unfold start; omega⟩
          ⟨6144 + (((t : ℕ) / 4 % 4 * 2 + hd) * 128 + x), by omega⟩) := by
  subst ho
  have ht := idx_val t
  pointwise [iblk]
  blk_ext [idx_val t]

/-- The table a grid's first block of query rows loads. -/
theorem t_ld0 (t : Fin cfg0.N) (h0 : (t : ℕ) % 4 = 0) (hd : Fin 2) (o : Fin 4 → ℕ) (ho : o = ![0, (hd : ℕ), 0, 0])
    (ib : ∀ a, o a + S1x1x256x768.size a ≤ S1x2x256x768.size a) (a : Fin 256) (k : Fin 768) :
    View.ld (iblk m c 3 t) (Rect.unit o ![1, 1, 256, 768] ib) (ix4 0 0 a k)
      = V m c main_v64 (ix4 0 ⟨(t : ℕ) / 4 % 4 * 2 + hd, by omega⟩ a k) := by
  subst ho
  have ht := idx_val t
  pointwise [iblk]
  blk_ext [idx_val t]
  simp [h0]

/-- The table the first block of query rows of a later grid point loads. -/
theorem t_ld1 (t : Fin cfg0.N) (h0 : (t : ℕ) % 4 ≠ 0) (hd : Fin 2) (o : Fin 4 → ℕ) (ho : o = ![0, (hd : ℕ), 0, 0])
    (ib : ∀ a, o a + S1x1x256x768.size a ≤ S1x2x256x768.size a) (a : Fin 256) (k : Fin 768) :
    View.ld (iblk m c 3 t) (Rect.unit o ![1, 1, 256, 768] ib) (ix4 0 0 a k)
      = V m c main_v64 (ix4 1 ⟨(t : ℕ) / 4 % 4 * 2 + hd, by omega⟩ a k) := by
  subst ho
  have ht := idx_val t
  pointwise [iblk]
  blk_ext [idx_val t]
  simp [h0]

/-- The table the two middle blocks load. -/
theorem t_ld2 (t : Fin cfg0.N) (hd : Fin 2) (o : Fin 4 → ℕ) (ho : o = ![0, (hd : ℕ), 0, 0])
    (ib : ∀ a, o a + S1x1x256x768.size a ≤ S1x2x256x768.size a) (a : Fin 256) (k : Fin 768) :
    View.ld (iblk m c 4 t) (Rect.unit o ![1, 1, 256, 768] ib) (ix4 0 0 a k)
      = V m c main_v64 (ix4 1 ⟨(t : ℕ) / 4 % 4 * 2 + hd, by omega⟩ a k) := by
  subst ho
  have ht := idx_val t
  pointwise [iblk]
  blk_ext [idx_val t]

/-- The table the last block of query rows loads, before a grid's last point. -/
theorem t_ld3 (t : Fin cfg0.N) (h0 : (t : ℕ) % 4 ≠ 3) (hd : Fin 2) (o : Fin 4 → ℕ) (ho : o = ![0, (hd : ℕ), 0, 0])
    (ib : ∀ a, o a + S1x1x256x768.size a ≤ S1x2x256x768.size a) (a : Fin 256) (k : Fin 768) :
    View.ld (iblk m c 5 t) (Rect.unit o ![1, 1, 256, 768] ib) (ix4 0 0 a k)
      = V m c main_v64 (ix4 1 ⟨(t : ℕ) / 4 % 4 * 2 + hd, by omega⟩ a k) := by
  subst ho
  have ht := idx_val t
  pointwise [iblk]
  blk_ext [idx_val t]
  simp [h0]

/-- The table a grid's last block of query rows loads. -/
theorem t_ld4 (t : Fin cfg0.N) (h0 : (t : ℕ) % 4 = 3) (hd : Fin 2) (o : Fin 4 → ℕ) (ho : o = ![0, (hd : ℕ), 0, 0])
    (ib : ∀ a, o a + S1x1x256x768.size a ≤ S1x2x256x768.size a) (a : Fin 256) (k : Fin 768) :
    View.ld (iblk m c 5 t) (Rect.unit o ![1, 1, 256, 768] ib) (ix4 0 0 a k)
      = V m c main_v64 (ix4 2 ⟨(t : ℕ) / 4 % 4 * 2 + hd, by omega⟩ a k) := by
  subst ho
  have ht := idx_val t
  pointwise [iblk]
  blk_ext [idx_val t]
  simp [h0]

end NaLoad
end
-- ==== Proof.NaBlock.lean ====
/- The kernel's output block by block: what each grid point leaves is the attention of its rows and heads. -/
module

public import proofs.«01_k».proof.Proof.NaLoad
public import proofs.«01_k».proof.Proof.Gen.NaIdeal.Value
public import Idealize.ShloMosaic.Lib.Pointwise
public import Idealize.ShloMosaic.Lib.Pipeline.ValueKit

@[expose] public section

set_option maxRecDepth 16384

noncomputable section

namespace NaBlock

open Idealize.ShloMosaic Idealize.ShloMosaic.TcCoe Idealize.SL.Sem
open Cert.NaIdeal Cert.NaIdeal.Gen NaMath NaCore NaLoad

variable (m : (ℓ : Loc nD τ sig) → Buf (Elt Ideal) ℓ) (c : Dev nD)

/-- The kernel's queries, keys, values and bias: the arguments it is run on. -/
abbrev qa : Vec Ideal S8x4096x1024 .f32 := m ((c : Thread nD τ).loc main_arg0)
@[inherit_doc qa] abbrev ka : Vec Ideal S8x4096x1024 .f32 := m ((c : Thread nD τ).loc main_arg1)
@[inherit_doc qa] abbrev wa : Vec Ideal S8x4096x1024 .f32 := m ((c : Thread nD τ).loc main_arg2)
@[inherit_doc qa] abbrev ra : Vec Ideal S8x15x31 .f32 := m ((c : Thread nD τ).loc main_arg3)

/-- The three tables, from the bias. -/
theorem V_tab : V m c main_v64 = NaTab.tables (NaTab.band (ra m c)) :=
  (NaTab.V_tables m c).trans (congrArg NaTab.tables (NaTab.V_band m c))

/-- The bias of a key for a query that sees it, and `⊥` for one that does not. -/
abbrev seen (R : Vec Ideal S8x15x31 .f32) (h : Fin 8) (n f : Fin 4096) : EReal :=
  if Sees n f then (R (ix3 h ⟨min 14 ((f : ℕ) / 64 + 7 - (n : ℕ) / 64), by omega⟩
    ⟨min 30 ((f : ℕ) % 64 + 15 - (n : ℕ) % 64), by omega⟩) : EReal) else ⊥

/-- What the first block of query rows of a grid point finds in its table. -/
theorem see0 (t : Fin cfg0.N) (hd : ℕ) (hhd : hd < 2) (o : Fin 4 → ℕ) (ho : o = ![0, hd, 0, 0])
    (ib : ∀ a, o a + S1x1x256x768.size a ≤ S1x2x256x768.size a) (h : Fin 8) (hh : (h : ℕ) = (t : ℕ) / 4 % 4 * 2 + hd)
    (a : Fin 256) (n : Fin 4096) (hn : (n : ℕ) = (4 * ((t : ℕ) % 4) + 0) * 256 + a) (k : Fin 768) (f : Fin 4096)
    (hf : (f : ℕ) = start (4 * ((t : ℕ) % 4) + 0) * 64 + k) :
    View.ld (iblk m c 3 t) (Rect.unit o ![1, 1, 256, 768] ib) (ix4 0 0 a k) = seen (ra m c) h n f := by
  obtain rfl : h = ⟨(t : ℕ) / 4 % 4 * 2 + hd, by clear hh; omega⟩ := Fin.ext hh
  by_cases h0 : (t : ℕ) % 4 = 0
  · refine (t_ld0 m c t h0 ⟨hd, hhd⟩ o ho ib a k).trans ?_
    exact (congrFun (V_tab m c) _).trans (first_sees _ _ a k n f (by omega) (by unfold start at hf; omega))
  · refine (t_ld1 m c t h0 ⟨hd, hhd⟩ o ho ib a k).trans ?_
    exact (congrFun (V_tab m c) _).trans (mid_sees _ _ a k n f (4 * ((t : ℕ) % 4) + 0) (by omega) (by omega) hn hf)

/-- What the two middle blocks of query rows find in theirs. -/
theorem see1 (t : Fin cfg0.N) (blk : ℕ) (hb : blk = 1 ∨ blk = 2) (hd : ℕ) (hhd : hd < 2) (o : Fin 4 → ℕ) (ho : o = ![0, hd, 0, 0])
    (ib : ∀ a, o a + S1x1x256x768.size a ≤ S1x2x256x768.size a) (h : Fin 8) (hh : (h : ℕ) = (t : ℕ) / 4 % 4 * 2 + hd)
    (a : Fin 256) (n : Fin 4096) (hn : (n : ℕ) = (4 * ((t : ℕ) % 4) + blk) * 256 + a) (k : Fin 768) (f : Fin 4096)
    (hf : (f : ℕ) = start (4 * ((t : ℕ) % 4) + blk) * 64 + k) :
    View.ld (iblk m c 4 t) (Rect.unit o ![1, 1, 256, 768] ib) (ix4 0 0 a k) = seen (ra m c) h n f := by
  obtain rfl : h = ⟨(t : ℕ) / 4 % 4 * 2 + hd, by clear hh; omega⟩ := Fin.ext hh
  refine (t_ld2 m c t ⟨hd, hhd⟩ o ho ib a k).trans ?_
  exact (congrFun (V_tab m c) _).trans (mid_sees _ _ a k n f (4 * ((t : ℕ) % 4) + blk) (by omega) (by omega) hn hf)

/-- What the last block of query rows finds in its. -/
theorem see3 (t : Fin cfg0.N) (hd : ℕ) (hhd : hd < 2) (o : Fin 4 → ℕ) (ho : o = ![0, hd, 0, 0])
    (ib : ∀ a, o a + S1x1x256x768.size a ≤ S1x2x256x768.size a) (h : Fin 8) (hh : (h : ℕ) = (t : ℕ) / 4 % 4 * 2 + hd)
    (a : Fin 256) (n : Fin 4096) (hn : (n : ℕ) = (4 * ((t : ℕ) % 4) + 3) * 256 + a) (k : Fin 768) (f : Fin 4096)
    (hf : (f : ℕ) = start (4 * ((t : ℕ) % 4) + 3) * 64 + k) :
    View.ld (iblk m c 5 t) (Rect.unit o ![1, 1, 256, 768] ib) (ix4 0 0 a k) = seen (ra m c) h n f := by
  obtain rfl : h = ⟨(t : ℕ) / 4 % 4 * 2 + hd, by clear hh; omega⟩ := Fin.ext hh
  by_cases h0 : (t : ℕ) % 4 = 3
  · have e1 : (n : ℕ) = 15 * 256 + a := by
      clear hf
      rw [h0] at hn
      exact hn
    have e2 : (f : ℕ) = 52 * 64 + k := by
      rw [h0] at hf
      simpa [start] using hf
    rw [t_ld4 m c t h0 ⟨hd, hhd⟩ o ho ib a k, V_tab m c]
    exact last_sees _ _ a k n f e1 e2
  · refine (t_ld3 m c t h0 ⟨hd, hhd⟩ o ho ib a k).trans ?_
    exact (congrFun (V_tab m c) _).trans (mid_sees _ _ a k n f (4 * ((t : ℕ) % 4) + 3) (by omega) (by omega) hn hf)

variable (hQ : ∀ i, ∃ r : ℝ, qa m c i = (r : EReal)) (hK : ∀ i, ∃ r : ℝ, ka m c i = (r : EReal))
  (hR : ∀ i, ∃ r : ℝ, ra m c i = (r : EReal))

include hQ hK hR in
/-- One element of a tile, from where its loads lie: the attention of that query in that head. -/
theorem piece (t : Fin cfg0.N) (blk hd : ℕ) (hblk : blk < 4) (hhd : hd < 2) (x : S256x128.Idx) (b h : Fin 8) (n : Fin 4096) (e : Fin 1024)
    (hb : (b : ℕ) = (t : ℕ) / 16) (hh : (h : ℕ) = (t : ℕ) / 4 % 4 * 2 + hd)
    (hn : (n : ℕ) = (4 * ((t : ℕ) % 4) + blk) * 256 + (x 0 : ℕ)) (he : (e : ℕ) = (h : ℕ) * 128 + (x 1 : ℕ))
    (oq : Fin 2 → ℕ) (iq : ∀ a, oq a + S256x128.size a ≤ S1024x256.size a) (hoq : oq = ![blk * 256, hd * 128])
    (ok : Fin 2 → ℕ) (ik ik' : ∀ a, ok a + S768x128.size a ≤ S4096x256.size a)
    (hok : ok = ![start (4 * ((t : ℕ) % 4) + blk) * 64, hd * 128]) (T : Vec Ideal S1x1x256x768 .f32)
    (hT : ∀ (k : Fin 768) (f : Fin 4096), (f : ℕ) = start (4 * ((t : ℕ) % 4) + blk) * 64 + k →
      T (ix4 0 0 (x 0) k) = seen (ra m c) h n f) :
    NaTile.tile (View.ld (iblk m c 0 t) (Rect.unit oq ![256, 128] iq)) (View.ld (iblk m c 1 t) (Rect.unit ok ![768, 128] ik))
      (View.ld (iblk m c 2 t) (Rect.unit ok ![768, 128] ik')) T x = plain (qa m c) (ka m c) (wa m c) (ra m c) b h n e := by
  have ht := lt_of_lt_of_eq t.isLt N_0
  obtain ⟨a, d, rfl⟩ : ∃ (a : Fin 256) (d : Fin 128), x = ix2 a d :=
    ⟨x 0, x 1, funext fun z => match z with | ⟨0, _⟩ => rfl | ⟨1, _⟩ => rfl⟩
  change (n : ℕ) = (4 * ((t : ℕ) % 4) + blk) * 256 + (a : ℕ) at hn
  change (e : ℕ) = (h : ℕ) * 128 + (d : ℕ) at he
  obtain rfl : e = feat h d := Fin.ext he
  refine core (qa m c) (ka m c) (wa m c) (ra m c) hQ hK hR b h (4 * ((t : ℕ) % 4) + blk) (by omega) a d n hn _ _ _ T
    (fun k => ⟨start (4 * ((t : ℕ) % 4) + blk) * 64 + k, by unfold start; omega⟩) (fun k => rfl) ?_ ?_ ?_ fun k => hT k _ rfl
  · intro x
    refine (q_ld m c t ⟨blk, hblk⟩ ⟨hd, hhd⟩ oq hoq iq a x).trans ((congrFun (NaTab.V_qkv m c) _).trans ((NaTab.q_at _ _ _ ⟨_, _⟩ ⟨_, by omega⟩).trans ?_))
    refine congrArg (fun z => qa m c z * Ideal.ofBits .f32 1035273459#32) ?_
    exact (ix3_inj _ _ _ _ _ _).mpr ⟨Fin.ext (by simp only; omega), Fin.ext (by simp only; omega), Fin.ext (by simp only [feat]; omega)⟩
  · intro k x
    refine (k_ld m c t _ (by omega) ⟨hd, hhd⟩ ok hok ik k x).trans ((congrFun (NaTab.V_qkv m c) _).trans ((NaTab.k_at _ _ _ ⟨_, _⟩ ⟨_, by omega⟩).trans ?_))
    refine congrArg (fun z => ka m c z) ?_
    exact (ix3_inj _ _ _ _ _ _).mpr ⟨Fin.ext (by simp only [start]; omega), Fin.ext (by simp only [start]; omega), Fin.ext (by simp only [feat]; omega)⟩
  · intro k
    refine (v_ld m c t _ (by omega) ⟨hd, hhd⟩ ok hok ik' k d).trans ((congrFun (NaTab.V_qkv m c) _).trans ((NaTab.v_at _ _ _ ⟨_, _⟩ ⟨_, by omega⟩).trans ?_))
    refine congrArg (fun z => wa m c z) ?_
    exact (ix3_inj _ _ _ _ _ _).mpr ⟨Fin.ext (by simp only [start]; omega), Fin.ext (by simp only [start]; omega), Fin.ext (by simp only [feat]; omega)⟩

include hQ hK hR in
set_option maxHeartbeats 1000000 in
/-- What a grid point leaves in its output block. -/
theorem point (t : Fin cfg0.N) (y : S1024x256.Idx) (b h : Fin 8) (n : Fin 4096) (e : Fin 1024)
    (hb : (b : ℕ) = (t : ℕ) / 16) (hh : (h : ℕ) = (t : ℕ) / 4 % 4 * 2 + (y 1 : ℕ) / 128)
    (hn : (n : ℕ) = (t : ℕ) % 4 * 1024 + (y 0 : ℕ)) (he : (e : ℕ) = (t : ℕ) / 4 % 4 * 256 + (y 1 : ℕ)) :
    (Gen.outsAt0 m c t y : EReal) = plain (qa m c) (ka m c) (wa m c) (ra m c) b h n e := by
  have o1 (r : Fin 4) : k0_off1 (grid0.coords t) (BitVec.ofNat 32 r.val) = ![start (4 * ((t : ℕ) % 4) + r) * 64, 0] := by
    rw [off1, coord2]
  have o2 (r : Fin 4) : k0_off2 (grid0.coords t) (BitVec.ofNat 32 r.val) = ![start (4 * ((t : ℕ) % 4) + r) * 64, 128] := by
    rw [off2, coord2]
  unfold Gen.outsAt0
  frame_out
  canon_tiles x hz
  case piece7 =>
    exact (congrFun (NaTile.tile0 _ _ _ _) x).trans (piece m c hQ hK hR t 0 0 (by omega) (by omega) x b h n e hb (by omega) (by omega) (by omega)
      _ _ rfl _ _ _ (o1 0) _ fun k f hf => see0 m c t 0 (by omega) _ rfl _ h (by omega) _ n (by omega) k f hf)
  case piece6 =>
    exact (congrFun (NaTile.tile1 _ _ _ _) x).trans (piece m c hQ hK hR t 0 1 (by omega) (by omega) x b h n e hb (by omega) (by omega) (by omega)
      _ _ rfl _ _ _ (o2 0) _ fun k f hf => see0 m c t 1 (by omega) _ rfl _ h (by omega) _ n (by omega) k f hf)
  case piece5 =>
    exact (congrFun (NaTile.tile2 _ _ _ _) x).trans (piece m c hQ hK hR t 1 0 (by omega) (by omega) x b h n e hb (by omega) (by omega) (by omega)
      _ _ rfl _ _ _ (o1 1) _ fun k f hf => see1 m c t 1 (.inl rfl) 0 (by omega) _ rfl _ h (by omega) _ n (by omega) k f hf)
  case piece4 =>
    exact (congrFun (NaTile.tile3 _ _ _ _) x).trans (piece m c hQ hK hR t 1 1 (by omega) (by omega) x b h n e hb (by omega) (by omega) (by omega)
      _ _ rfl _ _ _ (o2 1) _ fun k f hf => see1 m c t 1 (.inl rfl) 1 (by omega) _ rfl _ h (by omega) _ n (by omega) k f hf)
  case piece3 =>
    exact (congrFun (NaTile.tile4 _ _ _ _) x).trans (piece m c hQ hK hR t 2 0 (by omega) (by omega) x b h n e hb (by omega) (by omega) (by omega)
      _ _ rfl _ _ _ (o1 2) _ fun k f hf => see1 m c t 2 (.inr rfl) 0 (by omega) _ rfl _ h (by omega) _ n (by omega) k f hf)
  case piece2 =>
    exact (congrFun (NaTile.tile5 _ _ _ _) x).trans (piece m c hQ hK hR t 2 1 (by omega) (by omega) x b h n e hb (by omega) (by omega) (by omega)
      _ _ rfl _ _ _ (o2 2) _ fun k f hf => see1 m c t 2 (.inr rfl) 1 (by omega) _ rfl _ h (by omega) _ n (by omega) k f hf)
  case piece1 =>
    exact (congrFun (NaTile.tile6 _ _ _ _) x).trans (piece m c hQ hK hR t 3 0 (by omega) (by omega) x b h n e hb (by omega) (by omega) (by omega)
      _ _ rfl _ _ _ (o1 3) _ fun k f hf => see3 m c t 0 (by omega) _ rfl _ h (by omega) _ n (by omega) k f hf)
  case piece0 =>
    exact (rfl : _ = NaTile.tile _ _ _ _ x).trans (piece m c hQ hK hR t 3 1 (by omega) (by omega) x b h n e hb (by omega) (by omega) (by omega)
      _ _ rfl _ _ _ (o2 3) _ fun k f hf => see3 m c t 1 (by omega) _ rfl _ h (by omega) _ n (by omega) k f hf)

include hQ hK hR in
/-- The kernel's result, whole: token `t` of its batch, feature `e` of its head. -/
theorem final : (dats m 0 c).arrAt 6 cfg0.N = fun i : S32768x1024.Idx =>
    plain (qa m c) (ka m c) (wa m c) (ra m c) ⟨(i 0 : ℕ) / 4096, by have := (i 0).isLt; simp at this; omega⟩
      ⟨(i 1 : ℕ) / 128, by have := (i 1).isLt; simp at this; omega⟩ ⟨(i 0 : ℕ) % 4096, by omega⟩ (i 1) := by
  refine (dats m 0 c).arrAt_eq_of_covers 6 _ (by decide +kernel) fun t hf y => ?_
  have ht := lt_of_lt_of_eq t.isLt N_0
  have h0 := (y 0).isLt
  have h1 := (y 1).isLt
  simp at h0 h1
  blk_simp
  rw [after0_6]
  refine point m c hQ hK hR t y _ _ _ _ ?_ ?_ ?_ ?_
  all_goals (blk_simp [idx_val t])
  all_goals (simp only; omega)

end NaBlock
end
-- ==== Proof.NaWords.lean ====
/- The index words of the attention's reference: rows, columns, windows and bias indices. -/
module

public import proofs.«01_k».proof.Proof.NaMath
public import proofs.«01_k».proof.Proof.Gen.NaRefIdeal.Run
public import Idealize.ShloMosaic.Lib.Pointwise
public import Idealize.ShloMosaic.Lib.Pipeline.ValueKit

@[expose] public section

set_option maxRecDepth 16384

noncomputable section

namespace NaRef

open Idealize.ShloMosaic Idealize.ShloMosaic.TcCoe Idealize.SL.Sem
open Cert.NaRefIdeal Cert.NaRefIdeal.Gen Cert.NaRefIdeal.Value

variable (V0 : Valuation τ sig (Elt Ideal))

/-- The reference's row word of a token is its number divided by 64. -/
theorem v7_at (n : Fin 4096) : res_main_v7 V0 (ix1 n) = BitVec.ofNat 32 ((n : ℕ) / 64) := by
  pointwise [res_main_v7, res_main_call0_v2, res_main_v6, res_main_call0_v0]
  simp only [id, constantI]
  change @Eq (BitVec 32) _ _
  revert n
  decide +kernel

/-- The reference's column word of a token is the remainder. -/
theorem v8_at (n : Fin 4096) : res_main_v8 V0 (ix1 n) = BitVec.ofNat 32 ((n : ℕ) % 64) := by
  pointwise [res_main_v8, res_main_call1_v2, res_main_v6, res_main_call1_v0, res_main_call1_v4]
  simp only [id, constantI]
  change @Eq (BitVec 32) _ _
  revert n
  decide +kernel

/-- The word of the window's first row. -/
theorem v11_at (n : Fin 4096) : res_main_v11 V0 (ix1 n) = BitVec.ofNat 32 (NaMath.rs n) := by
  pointwise [res_main_v11, v7_at]
  simp only [id, constantI]
  change @Eq (BitVec 32) _ _
  revert n
  decide +kernel

/-- The word of the window's first column. -/
theorem v14_at (n : Fin 4096) : res_main_v14 V0 (ix1 n) = BitVec.ofNat 32 (NaMath.ws n) := by
  pointwise [res_main_v14, v8_at]
  simp only [id, constantI]
  change @Eq (BitVec 32) _ _
  revert n
  decide +kernel

/-- The word of the bias row: the distance of the rows plus seven, kept within the bias array. -/
theorem v48_at (n m : Fin 4096) : res_main_v48 V0 (ix2 n m)
    = BitVec.ofNat 32 (min 14 ((m : ℕ) / 64 + 7 - (n : ℕ) / 64)) := by
  pointwise [res_main_v48, v7_at]
  have hn : (n : ℕ) / 64 < 64 := by omega
  have hm : (m : ℕ) / 64 < 64 := by omega
  generalize (n : ℕ) / 64 = a at *
  generalize (m : ℕ) / 64 = b at *
  simp only [id, constantI]
  change @Eq (BitVec 32) _ _
  revert a b
  decide +kernel

/-- The word of the bias column: the distance of the columns plus fifteen, kept within the bias array. -/
theorem v56_at (n m : Fin 4096) : res_main_v56 V0 (ix2 n m)
    = BitVec.ofNat 32 (min 30 ((m : ℕ) % 64 + 15 - (n : ℕ) % 64)) := by
  pointwise [res_main_v56, v8_at]
  have hn : (n : ℕ) % 64 < 64 := by omega
  have hm : (m : ℕ) % 64 < 64 := by omega
  generalize (n : ℕ) % 64 = a at *
  generalize (m : ℕ) % 64 = b at *
  simp only [id, constantI]
  change @Eq (BitVec 32) _ _
  revert a b
  decide +kernel

end NaRef

end
-- ==== Proof.NaRef.lean ====
/- What the reference of the attention computes, element by element. -/
module

public import proofs.«01_k».proof.Proof.NaWords

@[expose] public section

set_option maxRecDepth 16384

noncomputable section

namespace NaRef

open Idealize.ShloMosaic Idealize.ShloMosaic.TcCoe Idealize.SL.Sem
open Cert.NaRefIdeal Cert.NaRefIdeal.Gen Cert.NaRefIdeal.Value

variable (V0 : Valuation τ sig (Elt Ideal))

/-- The bias gather at a head, a query and a key: the bias at the row and the column that the two index words
    name, each kept within the bias array. -/
theorem gather_at (x : Vec Ideal S8x15x31 .f32) (idx : IVec S4096x4096x2 32) (h : Fin 8) (n m : Fin 4096) :
    Host.gather gather_S8x15x31_S4096x4096x2_S8x4096x4096_0_12_n_n_12_2_811 x idx (ix3 h n m)
      = x (ix3 h ⟨min (idx (ix3 n m 0)).toInt.toNat 14, by omega⟩ ⟨min (idx (ix3 n m 1)).toInt.toNat 30, by omega⟩) := by
  unfold Host.gather
  congr 1
  funext a
  refine Fin.ext ?_
  generalize hd : gather_S8x15x31_S4096x4096x2_S8x4096x4096_0_12_n_n_12_2_811 = d
  show d.start (ix3 h n m) idx a + d.batchCoord (ix3 h n m) a + d.offCoord (ix3 h n m) a = _
  rw [GatherDims.batchCoord_eq_zero _ _ _ (by rw [← hd]; exact List.not_mem_nil)]
  subst hd
  have hsi : ∀ k : Fin 2, ∀ j : Fin 2, (j : ℕ) = k →
      gather_S8x15x31_S4096x4096x2_S8x4096x4096_0_12_n_n_12_2_811.siIdx (ix3 h n m) k = ix3 n m j := by
    intro k j hj
    funext c
    refine Fin.ext ?_
    match c with
    | ⟨0, _⟩ => rfl
    | ⟨1, _⟩ => rfl
    | ⟨2, _⟩ => exact hj.symm
  match a with
  | ⟨0, _⟩ =>
      have hs : gather_S8x15x31_S4096x4096x2_S8x4096x4096_0_12_n_n_12_2_811.start (ix3 h n m) idx 0 = 0 := by
        unfold GatherDims.start
        rw [dif_neg (by decide)]
      exact (congrArg (· + 0 + _) hs).trans (by simp; rfl)
  | ⟨1, _⟩ =>
      rw [GatherDims.offCoord_eq_zero _ _ _ (by decide +revert)]
      unfold GatherDims.start
      refine (congrArg (fun z : ℕ => z + 0 + 0) (dif_pos (show (1 : Fin 3) ∈ [(1 : Fin 3), 2] by decide))).trans ?_
      exact congrArg (fun z => min (idx z).toInt.toNat 14) (hsi 0 0 rfl)
  | ⟨2, _⟩ =>
      rw [GatherDims.offCoord_eq_zero _ _ _ (by decide +revert)]
      unfold GatherDims.start
      refine (congrArg (fun z : ℕ => z + 0 + 0) (dif_pos (show (2 : Fin 3) ∈ [(1 : Fin 3), 2] by decide))).trans ?_
      exact congrArg (fun z => min (idx z).toInt.toNat 30) (hsi 1 1 rfl)

/-- The bias gather where the two index words are known to lie within the bias array. -/
theorem gather_words (x : Vec Ideal S8x15x31 .f32) (idx : IVec S4096x4096x2 32) (h : Fin 8) (n m : Fin 4096) (A B : ℕ)
    (hA : A < 15) (hB : B < 31) (h0 : (idx (ix3 n m 0)).toInt.toNat = A) (h1 : (idx (ix3 n m 1)).toInt.toNat = B) :
    Host.gather gather_S8x15x31_S4096x4096x2_S8x4096x4096_0_12_n_n_12_2_811 x idx (ix3 h n m)
      = x (ix3 h ⟨A, hA⟩ ⟨B, hB⟩) := by
  subst h0 h1
  rw [gather_at]
  congr 2 <;> exact Fin.ext (by simp; omega)

/-- A clamped row word read as the gather reads it, after the wrap of negative indices. -/
theorem row_word (a b : ℕ) (ha : a < 64) (hb : b < 64) :
    (Scalar.select (IntOp.cmpi .slt (BitVec.ofNat 32 (min 14 (b + 7 - a))) 0#32)
      (IntOp.addi (BitVec.ofNat 32 (min 14 (b + 7 - a))) 15#32)
      (BitVec.ofNat 32 (min 14 (b + 7 - a)))).toInt.toNat = min 14 (b + 7 - a) := by
  revert b
  revert a
  decide +kernel

/-- A clamped column word read as the gather reads it, after the wrap of negative indices. -/
theorem col_word (a b : ℕ) (ha : a < 64) (hb : b < 64) :
    (Scalar.select (IntOp.cmpi .slt (BitVec.ofNat 32 (min 30 (b + 15 - a))) 0#32)
      (IntOp.addi (BitVec.ofNat 32 (min 30 (b + 15 - a))) 31#32)
      (BitVec.ofNat 32 (min 30 (b + 15 - a)))).toInt.toNat = min 30 (b + 15 - a) := by
  revert b
  revert a
  decide +kernel

/-- The two comparisons of the rows say that the key's row lies in the window's. -/
theorem row_bit (a b : ℕ) (ha : a < 64) (hb : b < 64) :
    IntOp.andi (IntOp.cmpi .sge (BitVec.ofNat 32 b) (BitVec.ofNat 32 (min 56 (a - 4))))
      (IntOp.cmpi .slt (BitVec.ofNat 32 b) (IntOp.addi (BitVec.ofNat 32 (min 56 (a - 4))) 8#32))
      = BitVec.ofBool (decide (min 56 (a - 4) ≤ b ∧ b < min 56 (a - 4) + 8)) := by
  revert b
  revert a
  decide +kernel

/-- The two comparisons of the columns say that the key's column lies in the window's. -/
theorem col_bit (a b : ℕ) (ha : a < 64) (hb : b < 64) :
    IntOp.andi (IntOp.cmpi .sge (BitVec.ofNat 32 b) (BitVec.ofNat 32 (min 48 (a - 8))))
      (IntOp.cmpi .slt (BitVec.ofNat 32 b) (IntOp.addi (BitVec.ofNat 32 (min 48 (a - 8))) 16#32))
      = BitVec.ofBool (decide (min 48 (a - 8) ≤ b ∧ b < min 48 (a - 8) + 16)) := by
  revert b
  revert a
  decide +kernel

/-- The largest entry of a row of scores, as the reference takes it: from `⊥` on, over all keys. -/
theorem max_at (X : Vec Ideal S8x8x4096x4096 .f32) (b h : Fin 8) (n : Fin 4096) :
    Host.reduce (FloatOps.maximumf (F := Ideal)) X (constant S_ .f32 0xFF800000#32) reducesTo_S8x8x4096x4096_S8x8x4096_d3 h_S_
      (ix3 b h n) = Finset.univ.sup fun j : Fin 4096 => (X (ix4 b h n j) : EReal) := by
  have hb : (constant (F := Ideal) S_ .f32 0xFF800000#32) (Shape.Idx.first h_S_) = (⊥ : EReal) := by
    show Ideal.ofBits .f32 0xFF800000#32 = ⊥
    simp [Ideal.ofBits, Ideal.ieee]
  rw [Host.reduce_eq_fold_single (FloatOps.maximumf (F := Ideal)) X _ reducesTo_S8x8x4096x4096_S8x8x4096_d3 (by decide) h_S_, hb]
  show Finset.fold max ⊥ _ _ = Finset.fold max ⊥ _ _
  congr 1
  funext k
  show X _ = X _
  congr 1
  funext c
  refine Fin.ext ?_
  match c with
  | ⟨0, _⟩ => rfl
  | ⟨1, _⟩ => rfl
  | ⟨2, _⟩ => rfl
  | ⟨3, _⟩ => rfl

/-- A choice on two bits is a choice on the two conditions together. -/
theorem select_both (p q : Prop) [Decidable p] [Decidable q] (A B : EReal) :
    Scalar.select (IntOp.andi (BitVec.ofBool (decide p)) (BitVec.ofBool (decide q))) A B = if p ∧ q then A else B := by
  by_cases hp : p <;> by_cases hq : q <;> simp [hp, hq, IntOp.andi, Scalar.select]

/-- The masked scores of the reference. -/
theorem v76_at (b h : Fin 8) (n m : Fin 4096) : res_main_v76 V0 (ix4 b h n m)
    = NaMath.score (V0 (Proc.devRef .tc main_arg0)) (V0 (Proc.devRef .tc main_arg1))
        (V0 (Proc.devRef .tc main_arg3)) b h n m := by
  have hn : (n : ℕ) / 64 < 64 := by omega
  have hm : (m : ℕ) / 64 < 64 := by omega
  have hn' : (n : ℕ) % 64 < 64 := by omega
  have hm' : (m : ℕ) % 64 < 64 := by omega
  have hb : Ideal.ofBits .f32 4286578688#32 = (⊥ : EReal) := by simp [Ideal.ofBits, Ideal.ieee]
  unfold res_main_v76
  generalize hG : Host.gather gather_S8x15x31_S4096x4096x2_S8x4096x4096_0_12_n_n_12_2_811 _ _ = G
  have hG' : G (ix3 h n m) = V0 (Proc.devRef .tc main_arg3) (ix3 h ⟨min 14 ((m : ℕ) / 64 + 7 - (n : ℕ) / 64), by omega⟩
      ⟨min 30 ((m : ℕ) % 64 + 15 - (n : ℕ) % 64), by omega⟩) := by
    rw [← hG]
    refine gather_words _ _ h n m _ _ _ _ ?_ ?_
    · pointwise [v48_at]
      exact row_word _ _ hn hm
    · pointwise [v56_at]
      exact col_word _ _ hn' hm'
  clear hG
  pointwise [v7_at, v8_at, v11_at, v14_at]
  simp only [NaMath.rs, NaMath.ws, row_bit _ _ hn hm, col_bit _ _ hn' hm', hG']
  refine (select_both _ _ _ _).trans ?_
  unfold NaMath.score
  exact if_congr Iff.rfl rfl hb

end NaRef

end
-- ==== Proof.NaRefB.lean ====
/- The last steps of the attention's reference: weights, normalisation, weighted sums. -/
module

public import proofs.«01_k».proof.Proof.NaRef

@[expose] public section

set_option maxRecDepth 16384

noncomputable section

namespace NaRef

open Idealize.ShloMosaic Idealize.ShloMosaic.TcCoe Idealize.SL.Sem
open Cert.NaRefIdeal Cert.NaRefIdeal.Gen Cert.NaRefIdeal.Value

variable (V0 : Valuation τ sig (Elt Ideal))

/-- The weights before they are normalised, for any array of scores and any array of largest scores. -/
theorem exp_at (X : Vec Ideal S8x8x4096x4096 .f32) (R : Vec Ideal S8x8x4096 .f32) (b h : Fin 8) (n m : Fin 4096) :
    (Host.exp (F := Ideal) (subf (F := Ideal) (φ := .f32) X (broadcastInDim S8x8x4096x4096 ![0, 1, 2, 3] bcast_S8x8x4096x1_S8x8x4096x4096_0_1_2_3
      (broadcastInDim S8x8x4096x1 ![0, 1, 2] bcast_S8x8x4096_S8x8x4096x1_0_1_2 (maximumf (broadcastInDim S8x8x4096 ![]
      bcast_S_S8x8x4096 (constant S_ .f32 0xFF800000#32)) R)))) : Vec Ideal S8x8x4096x4096 .f32) (ix4 b h n m)
      = Ideal.exp ((X (ix4 b h n m) : EReal) - (R (ix3 b h n) : EReal)) := by
  have hb : Ideal.ofBits .f32 4286578688#32 = (⊥ : EReal) := by simp [Ideal.ofBits, Ideal.ieee]
  pointwise
  rw [hb]
  exact congrArg (fun z => Ideal.exp (_ - z)) (bot_sup_eq _)

/-- The weights of the reference before they are normalised: each score less the largest of its query, in the
    exponential. -/
theorem v83_at (b h : Fin 8) (n m : Fin 4096) : res_main_v83 V0 (ix4 b h n m)
    = Ideal.exp (NaMath.score (V0 (Proc.devRef .tc main_arg0)) (V0 (Proc.devRef .tc main_arg1))
        (V0 (Proc.devRef .tc main_arg3)) b h n m - Finset.univ.sup fun j =>
        NaMath.score (V0 (Proc.devRef .tc main_arg0)) (V0 (Proc.devRef .tc main_arg1))
        (V0 (Proc.devRef .tc main_arg3)) b h n j) := by
  unfold res_main_v83
  refine (exp_at _ _ b h n m).trans ?_
  rw [max_at, v76_at]
  simp only [v76_at]

/-- An element of the reference's result from its weights. -/
theorem out_at (v : Vec Ideal S8x4096x1024 .f32) (E : Vec Ideal S8x8x4096x4096 .f32) (t : Fin 32768) (d : Fin 1024) :
    (truncf (F := Ideal) (φ := .f32) .bf16 (shapeCast S32768x1024 (transpose S8x4096x8x128 [0, 3, 1, 2] (Host.dotGeneral (F := Ideal) (φ₁ := .f32) dot_S8x4096x8x128_S8x8x4096x4096_S8x8x128x4096_1_3_3_2_02_01 none (shapeCast S8x4096x8x128 v shapeCasts_S8x4096x1024_S8x4096x8x128) (Host.divf (F := Ideal) (φ := .f32) E (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd (F := Ideal) (φ := .f32) E (constant S_ .f32 0x00000000#32) reducesTo_S8x8x4096x4096_S8x8x4096_d3 h_S_))))) transposes_S8x8x128x4096_S8x4096x8x128_0_3_1_2) shapeCasts_S8x4096x8x128_S32768x1024) bitsLt_bf16_f32 : Vec Ideal S32768x1024 .bf16) (ix2 t d)
      = ∑ x : Fin 4096, (v (ix3 ⟨(t : ℕ) / 4096, by omega⟩ x d) : EReal)
          * Ideal.div (E (ix4 ⟨(t : ℕ) / 4096, by omega⟩ ⟨(d : ℕ) / 128, by omega⟩
              ⟨(t : ℕ) % 4096, by omega⟩ x))
            (∑ y : Fin 4096, (E (ix4 ⟨(t : ℕ) / 4096, by omega⟩ ⟨(d : ℕ) / 128, by omega⟩
              ⟨(t : ℕ) % 4096, by omega⟩ y) : EReal)) := by
  pointwise

end NaRef

end
-- ==== Proof.NaEq.lean ====
/- The kernel's result and the reference's are the same attention. -/
module

public import proofs.«01_k».proof.Proof.NaBlock
public import proofs.«01_k».proof.Proof.NaRefB
public import proofs.«01_k».proof.Pre_finite_scores
public import Idealize.ShloMosaic.Lib.Claim

@[expose] public section

set_option maxRecDepth 16384

noncomputable section

open Idealize.ShloMosaic Idealize.ShloMosaic.TcCoe Idealize.SL.Sem

namespace NaEq

/-- A magnitude below infinity is that of a real number. -/
theorem fin_of (S : Shape) (hb : (⟨0, ![]⟩ : Shape).BroadcastsInDim S (![] : Fin 0 → Fin S.rank)) (x : FVec Ideal S .f32)
    (h : cmpf (F := Ideal) .olt (Host.absf x) (broadcastInDim S ![] hb (constant (F := Ideal) ⟨0, ![]⟩ .f32 0x7F800000#32)) = fun _ => 1#1)
    (i : S.Idx) : ∃ r : ℝ, x i = (r : EReal) := by
  have e := congrFun h i
  have hi : Ideal.ofBits .f32 0x7F800000#32 = (⊤ : EReal) := by simp [Ideal.ofBits, Ideal.ieee]
  change BitVec.ofBool (decide (max (x i) (-(x i) : EReal) < Ideal.ofBits .f32 0x7F800000#32)) = 1#1 at e
  rw [hi] at e
  have hlt : max (x i : EReal) (-(x i) : EReal) < ⊤ := by
    by_contra hn
    rw [decide_eq_false hn] at e
    exact absurd e (by decide)
  obtain ⟨h1, h2⟩ := max_lt_iff.mp hlt
  exact ⟨EReal.toReal (x i), (EReal.coe_toReal h1.ne fun hb => h2.ne (by rw [hb]; rfl)).symm⟩

end NaEq

namespace NaRef

open Cert.NaRefIdeal Cert.NaRefIdeal.Gen Cert.NaRefIdeal.Value

/-- The reference's result at a token and a feature: the attention over all keys. -/
theorem plain_at (V0 : Valuation τ sig (Elt Ideal)) (t : Fin 32768) (d : Fin 1024) :
    (truncf (F := Ideal) (φ := .f32) .bf16 (shapeCast S32768x1024 (transpose S8x4096x8x128 [0, 3, 1, 2] (Host.dotGeneral (F := Ideal) (φ₁ := .f32) dot_S8x4096x8x128_S8x8x4096x4096_S8x8x128x4096_1_3_3_2_02_01 none (shapeCast S8x4096x8x128 (V0 (Proc.devRef .tc main_arg2)) shapeCasts_S8x4096x1024_S8x4096x8x128) (Host.divf (F := Ideal) (φ := .f32) (res_main_v83 V0) (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd (F := Ideal) (φ := .f32) (res_main_v83 V0) (constant S_ .f32 0x00000000#32) reducesTo_S8x8x4096x4096_S8x8x4096_d3 h_S_))))) transposes_S8x8x128x4096_S8x4096x8x128_0_3_1_2) shapeCasts_S8x4096x8x128_S32768x1024) bitsLt_bf16_f32 : Vec Ideal S32768x1024 .bf16) (ix2 t d)
      = NaCore.plain (V0 (Proc.devRef .tc main_arg0)) (V0 (Proc.devRef .tc main_arg1)) (V0 (Proc.devRef .tc main_arg2))
          (V0 (Proc.devRef .tc main_arg3)) ⟨(t : ℕ) / 4096, by omega⟩ ⟨(d : ℕ) / 128, by omega⟩ ⟨(t : ℕ) % 4096, by omega⟩ d := by
  refine (out_at _ _ t d).trans ?_
  unfold NaCore.plain
  simp only [v83_at]

end NaRef
end
-- ==== Proof.NaClaim.lean ====
/- The claims about the attention: the kernel's over the reals, and the reference's frame. -/
module

public import proofs.«01_k».proof.Proof.NaEq
public import proofs.«01_k».proof.Defs

@[expose] public section

set_option maxRecDepth 16384

noncomputable section

open Idealize.ShloMosaic Idealize.ShloMosaic.TcCoe Idealize.SL.Sem

namespace NaClaim

/-- The precondition's broadcasts. -/
theorem preFacts : Cert.Pre_finite_scores.Facts where
  bcast_S_S8x4096x1024 := by decide
  bcast_S_S8x15x31 := by decide

/-- The attention of equal arguments. -/
theorem plain_congr {Q Q' K K' W W' : Vec Ideal Cert.NaIdeal.S8x4096x1024 .f32} {R R' : Vec Ideal Cert.NaIdeal.S8x15x31 .f32}
    (hQ : Q = Q') (hK : K = K') (hW : W = W') (hR : R = R') (b h : Fin 8) (n : Fin 4096) (d : Fin 1024) :
    NaCore.plain Q K W R b h n d = NaCore.plain Q' K' W' R' b h n d := by
  subst hQ hK hW hR
  rfl

set_option maxHeartbeats 1000000 in
/-- Over the reals the kernel's attention is the reference's, where queries, keys and bias are finite. -/
theorem algebraic : Cert.algebraic_NaIdeal_NaRefIdeal_pre_finite_scores (hNaIdeal := Cert.NaIdeal.Gen.facts)
    (hNaRefIdeal := Cert.NaRefIdeal.Gen.facts) (hPre_finite_scores := preFacts) := by
  intro m g m' g' hpre hag
  refine ⟨fun c => (Cert.NaIdeal.Gen.dats m 0 c).arrAt 6 Cert.NaIdeal.cfg0.N, Cert.NaIdeal.Value.run_blocks m g, ?_⟩
  refine (θ_run _ _ _).mono (fun r h c => ⟨(h c).1.trans ?_, (h c).2⟩) (Cert.NaRefIdeal.Value.run m' g')
  obtain ⟨e0, e1, e2, e3⟩ := hag c
  obtain ⟨p0, p1, p3⟩ := hpre c
  refine Eq.trans ?_ (NaBlock.final m c (NaEq.fin_of _ _ _ p0) (NaEq.fin_of _ _ _ p1) (NaEq.fin_of _ _ _ p3)).symm
  funext i
  obtain ⟨t, d, rfl⟩ : ∃ (t : Fin 32768) (d : Fin 1024), i = ix2 t d :=
    ⟨i 0, i 1, funext fun z => match z with | ⟨0, _⟩ => rfl | ⟨1, _⟩ => rfl⟩
  exact (NaRef.plain_at (StableHlo.launchContents m' c) t d).trans (plain_congr e0 e1 e2 e3 _ _ _ _)

/-- The reference has no semaphores. -/
theorem no_sem : IsEmpty (SemLoc Cert.NaRefIdeal.sig) := by
  rw [← Fintype.card_eq_zero_iff]
  decide

/-- The reference runs to its end and leaves its arguments and the counters. -/
theorem frameRef : Cert.quiescent_NaRefIdeal (hNaRefIdeal := Cert.NaRefIdeal.Gen.facts) := fun m g _ =>
  (θ_run _ _ _).mono (fun _ h => ⟨fun c => (h c).2, funext fun s => no_sem.elim s.2⟩) (Cert.NaRefIdeal.Value.run m g)

end NaClaim
end
-- ==== Proof.MergeTile.lean ====
/- The merge of one token, written once, and the kernel's block in its terms. -/
module

public import proofs.«01_k».proof.Proof.FfnTile
public import proofs.«01_k».proof.Proof.Gen.MergeIdeal.Value
public import Idealize.ShloMosaic.Lib.Pointwise
public import Idealize.ShloMosaic.Lib.Pipeline.ValueKit

@[expose] public section

set_option maxRecDepth 16384

noncomputable section

namespace MergeTile

open Idealize.ShloMosaic Idealize.ShloMosaic.TcCoe Idealize.SL.Sem
open Cert.MergeIdeal Cert.MergeIdeal.Gen FfnTile

/-- The mean of one head's features. -/
def headMean (Y : Fin 256 → EReal) : EReal := Ideal.div (∑ e, Y e) (Ideal.ofBits FTy.f32 1132462080#32)

/-- One head's features, less their mean, over their standard deviation. -/
def headNorm (Y : Fin 256 → EReal) (d : Fin 256) : EReal :=
  (Y d - headMean Y) * Ideal.rsqrt (headMean (fun e => (Y e - headMean Y) * (Y e - headMean Y)) + Ideal.ofBits FTy.f32 925353388#32)

/-- The logistic function. -/
def sig (x : EReal) : EReal := Ideal.div 1 (1 + Ideal.exp (0 - x))

/-- Feature `e` of head `h`, among the features of all heads. -/
abbrev at4 (h : Fin 4) (e : Fin 256) : Fin 1024 := ⟨(h : ℕ) * 256 + e, by omega⟩

/-- The recurrence's branch: both directions' sum, normalised head by head, scaled, and gated. -/
def branch (Hf Hb N O : Fin 1024 → EReal) (k : Fin 1024) : EReal :=
  headNorm (fun e => Hf (at4 ⟨(k : ℕ) / 256, by omega⟩ e) + Hb (at4 ⟨(k : ℕ) / 256, by omega⟩ e)) ⟨(k : ℕ) % 256, by omega⟩ * N k * sig (O k)

/-- The two branches, each projected and gated, added. -/
def merged (YA YM : Fin 1024 → EReal) (GA GM : Fin 2048 → EReal) (WA WM : Fin 1024 → Fin 2048 → EReal) (j : Fin 2048) : EReal :=
  sig (GA j) * (∑ k, YA k * WA k j) + sig (GM j) * ∑ k, YM k * WM k j

/-- The scaled input plus the projected merge. -/
def summed (X M : Fin 2048 → EReal) (WO : Fin 2048 → Fin 2048 → EReal) (e : Fin 2048) : EReal :=
  Ideal.ofBits FTy.f32 1066940400#32 * X e + ∑ j, M j * WO j e

variable (hf hb : Vec Ideal S512x1024 .bf16) (r : Fin 512)

/-- The first head's normalised features. -/
theorem head0 (e : Fin 256) : k0_pay3 hf hb (ix2 r e) = headNorm (fun e => hf (ix2 r (at4 0 e)) + hb (ix2 r (at4 0 e))) e := by
  have h : ∀ e : Fin 256, (⟨(e : ℕ), by omega⟩ : Fin 1024) = at4 0 e := fun e => Fin.ext (by simp)
  pointwise [k0_pay3, k0_pay2]
  simp only [h]
  rfl

/-- The second head's. -/
theorem head1 (e : Fin 256) : k0_pay4 hf hb (ix2 r e) = headNorm (fun e => hf (ix2 r (at4 1 e)) + hb (ix2 r (at4 1 e))) e := by
  have h : ∀ e : Fin 256, (⟨256 + (e : ℕ), by omega⟩ : Fin 1024) = at4 1 e := fun e => Fin.ext (by simp)
  pointwise [k0_pay4, k0_pay2]
  simp only [h]
  rfl

/-- Feature `p` of head `q`, normalised and scaled. -/
theorem head_at (ng : Vec Ideal S1x1024 .f32) (k : Fin 1024) (q : Fin 4) (p : Fin 256) (hk : (k : ℕ) = (q : ℕ) * 256 + p) :
    k0_pay7 (k0_pay2 hf hb) (k0_pay3 hf hb) (k0_pay4 hf hb) (k0_pay5 hf hb) (k0_pay6 hf hb) ng (ix2 r k)
      = (headNorm (fun e => hf (ix2 r (at4 q e)) + hb (ix2 r (at4 q e))) p * ng (ix2 0 k) : EReal) := by
  have hp' := p.isLt
  have h2 : ∀ e : Fin 256, (⟨512 + (e : ℕ), by omega⟩ : Fin 1024) = at4 2 e := fun e => Fin.ext (by simp)
  have h3 : ∀ e : Fin 256, (⟨768 + (e : ℕ), by omega⟩ : Fin 1024) = at4 3 e := fun e => Fin.ext (by simp)
  pointwise [k0_pay7, head0, head1, k0_pay5, k0_pay6, k0_pay2]
  refine congrArg (fun y : EReal => y * ng (ix2 0 k)) ?_
  by_cases a0 : (k : ℕ) < 256
  · rw [dif_pos a0]
    obtain rfl : q = 0 := Fin.ext (by simp only [Fin.coe_ofNat_eq_mod]; omega)
    exact congrArg _ (Fin.ext (by simp only; omega))
  rw [dif_neg a0]
  by_cases a1 : (k : ℕ) - 256 < 256
  · rw [dif_pos a1]
    obtain rfl : q = 1 := Fin.ext (by simp only [Fin.coe_ofNat_eq_mod]; omega)
    exact congrArg _ (Fin.ext (by simp only; omega))
  rw [dif_neg a1]
  by_cases a2 : (k : ℕ) - 256 - 256 < 256
  · rw [dif_pos a2]
    obtain rfl : q = 2 := Fin.ext (by simp only [Fin.coe_ofNat_eq_mod]; omega)
    have ep : (⟨512 + ((k : ℕ) - 256 - 256), by omega⟩ : Fin 1024) = at4 2 p := Fin.ext (by simp only [Fin.coe_ofNat_eq_mod]; omega)
    rw [ep]
    simp only [h2]
    rfl
  · rw [dif_neg a2]
    obtain rfl : q = 3 := Fin.ext (by simp only [Fin.coe_ofNat_eq_mod]; omega)
    have ep : (⟨768 + ((k : ℕ) - 256 - 256 - 256), by omega⟩ : Fin 1024) = at4 3 p := Fin.ext (by simp only [Fin.coe_ofNat_eq_mod]; omega)
    rw [ep]
    simp only [h3]
    rfl

/-- All heads' features, scaled. -/
theorem heads (ng : Vec Ideal S1x1024 .f32) (k : Fin 1024) :
    k0_pay7 (k0_pay2 hf hb) (k0_pay3 hf hb) (k0_pay4 hf hb) (k0_pay5 hf hb) (k0_pay6 hf hb) ng (ix2 r k)
      = (headNorm (fun e => hf (ix2 r (at4 ⟨(k : ℕ) / 256, by omega⟩ e)) + hb (ix2 r (at4 ⟨(k : ℕ) / 256, by omega⟩ e))) ⟨(k : ℕ) % 256, by omega⟩
        * ng (ix2 0 k) : EReal) := head_at hf hb r ng k _ _ (by simp only; omega)

variable (S : FVec Ideal S512x1024 .f32) (o ya : Vec Ideal S512x1024 .bf16) (ga gm : Vec Ideal S512x2048 .bf16)
  (wa wm : Vec Ideal S1024x2048 .bf16) (wo : Vec Ideal S2048x2048 .bf16)

/-- The merge, projected. -/
theorem mix_at (e : Fin 2048) : k0_pay9 S (k0_pay8 o) (Scalar.ofBits .f32 0x3F800000#32) ya wa wm ga gm wo (ix2 r e)
      = (∑ j : Fin 2048, merged (fun k => ya (ix2 r k)) (fun k => S (ix2 r k) * sig (o (ix2 r k))) (fun j => ga (ix2 r j)) (fun j => gm (ix2 r j))
          (fun k j => wa (ix2 k j)) (fun k j => wm (ix2 k j)) j * wo (ix2 j e) : EReal) := by
  pointwise [k0_pay9, k0_pay8]
  rfl

/-- The layer norm of the sum. -/
theorem norm_at (A : FVec Ideal S512x2048 .f32) (x : Vec Ideal S512x2048 .f32) (g b : Vec Ideal S1x2048 .f32) (d : Fin 2048) :
    k0_pay1 A x g b (ix2 r d) = norm (fun e => Ideal.ofBits FTy.f32 1066940400#32 * x (ix2 r e) + A (ix2 r e))
      (fun e => g (ix2 0 e)) (fun e => b (ix2 0 e)) d := by
  pointwise [k0_pay1]
  rfl

end MergeTile
end
-- ==== Proof.MergeRead.lean ====
/- What the blocks that the merge kernel loads hold, in the arguments. -/
module

public import proofs.«01_k».proof.Proof.Gen.MergeIdeal.Value
public import Idealize.ShloMosaic.Lib.Pointwise
public import Idealize.ShloMosaic.Lib.StableHlo.RunRead
public import Idealize.ShloMosaic.Lib.Pipeline.ValueKit

@[expose] public section

set_option maxRecDepth 16384

noncomputable section

namespace MergeRead

open Idealize.ShloMosaic Idealize.ShloMosaic.TcCoe Idealize.SL.Sem
open Cert.MergeIdeal Cert.MergeIdeal.Gen

variable (m : (ℓ : Loc nD τ sig) → Buf (Elt Ideal) ℓ) (c : Dev nD)

/-- The arguments the kernel is run on. -/
abbrev xa : Vec Ideal S8x4096x2048 .f32 := m ((c : Thread nD τ).loc main_arg0)
@[inherit_doc xa] abbrev fa : Vec Ideal S8x4x4096x256 .f32 := m ((c : Thread nD τ).loc main_arg1)
@[inherit_doc xa] abbrev ba : Vec Ideal S8x4x4096x256 .f32 := m ((c : Thread nD τ).loc main_arg2)
@[inherit_doc xa] abbrev oa : Vec Ideal S8x4096x1024 .f32 := m ((c : Thread nD τ).loc main_arg3)
@[inherit_doc xa] abbrev ya : Vec Ideal S8x4096x1024 .f32 := m ((c : Thread nD τ).loc main_arg4)
@[inherit_doc xa] abbrev gaa : Vec Ideal S8x4096x2048 .f32 := m ((c : Thread nD τ).loc main_arg5)
@[inherit_doc xa] abbrev gma : Vec Ideal S8x4096x2048 .f32 := m ((c : Thread nD τ).loc main_arg6)
@[inherit_doc xa] abbrev na : Vec Ideal S1x1024 .f32 := m ((c : Thread nD τ).loc main_arg7)
@[inherit_doc xa] abbrev wpa : Vec Ideal S1x1024x2048 .f32 := m ((c : Thread nD τ).loc main_arg8)
@[inherit_doc xa] abbrev wpm : Vec Ideal S1x1024x2048 .f32 := m ((c : Thread nD τ).loc main_arg9)
@[inherit_doc xa] abbrev woa : Vec Ideal S1x2048x2048 .f32 := m ((c : Thread nD τ).loc main_arg10)
@[inherit_doc xa] abbrev sa : Vec Ideal S1x2048 .f32 := m ((c : Thread nD τ).loc main_arg11)
@[inherit_doc xa] abbrev ha : Vec Ideal S1x2048 .f32 := m ((c : Thread nD τ).loc main_arg12)

/-- A token's batch. -/
abbrev bt (n : Fin 32768) : Fin 8 := ⟨(n : ℕ) / 4096, by omega⟩

/-- A token's place in its batch. -/
abbrev pl (n : Fin 32768) : Fin 4096 := ⟨(n : ℕ) % 4096, by omega⟩

/-- The inputs as one list of tokens. -/
theorem V_x (n : Fin 32768) (e : Fin 2048) : V m c main_v8 (ix2 n e) = xa m c (ix3 (bt n) (pl n) e) := by
  have h : V m c main_v8 = shapeCast S32768x2048 (xa m c) shapeCasts_S8x4096x2048_S32768x2048 := by
    unfold V
    after_reads_simp
    rfl
  rw [h]
  pointwise
  blk_ext

/-- The forward direction as one list of tokens, its heads side by side. -/
theorem V_f (n : Fin 32768) (k : Fin 1024) : V m c main_v11 (ix2 n k)
    = fa m c (ix4 (bt n) ⟨(k : ℕ) / 256, by omega⟩ (pl n) ⟨(k : ℕ) % 256, by omega⟩) := by
  have h : V m c main_v11 = truncf (F := Ideal) (φ := .f32) .bf16 (shapeCast S32768x1024 (transpose S8x4096x4x256 [0, 2, 1, 3] (fa m c) transposes_S8x4x4096x256_S8x4096x4x256_0_2_1_3) shapeCasts_S8x4096x4x256_S32768x1024) bitsLt_bf16_f32 := by
    unfold V
    after_reads_simp
    rfl
  rw [h]
  pointwise
  blk_ext

/-- The backward direction likewise. -/
theorem V_h (n : Fin 32768) (k : Fin 1024) : V m c main_v14 (ix2 n k)
    = ba m c (ix4 (bt n) ⟨(k : ℕ) / 256, by omega⟩ (pl n) ⟨(k : ℕ) % 256, by omega⟩) := by
  have h : V m c main_v14 = truncf (F := Ideal) (φ := .f32) .bf16 (shapeCast S32768x1024 (transpose S8x4096x4x256 [0, 2, 1, 3] (ba m c) transposes_S8x4x4096x256_S8x4096x4x256_0_2_1_3) shapeCasts_S8x4096x4x256_S32768x1024) bitsLt_bf16_f32 := by
    unfold V
    after_reads_simp
    rfl
  rw [h]
  pointwise
  blk_ext

/-- The attention's result as one list of tokens. -/
theorem V_y (n : Fin 32768) (k : Fin 1024) : V m c main_v16 (ix2 n k) = ya m c (ix3 (bt n) (pl n) k) := by
  have h : V m c main_v16 = truncf (F := Ideal) (φ := .f32) .bf16 (shapeCast S32768x1024 (ya m c) shapeCasts_S8x4096x1024_S32768x1024) bitsLt_bf16_f32 := by
    unfold V
    after_reads_simp
    rfl
  rw [h]
  pointwise
  blk_ext

/-- The gates, side by side. -/
theorem V_z : V m c main_v7 = concatenate S32768x11264 1
      [⟨S32768x2048, (truncf (F := Ideal) (φ := .f32) .bf16 (shapeCast S32768x2048 (gaa m c) shapeCasts_S8x4096x2048_S32768x2048) bitsLt_bf16_f32 : Vec Ideal S32768x2048 .bf16)⟩,
       ⟨S32768x2048, (truncf (F := Ideal) (φ := .f32) .bf16 (shapeCast S32768x2048 (gma m c) shapeCasts_S8x4096x2048_S32768x2048) bitsLt_bf16_f32 : Vec Ideal S32768x2048 .bf16)⟩,
       ⟨S32768x6144, (broadcastInDim S32768x6144 ![] bcast_S_S32768x6144 (constant (F := Ideal) S_ .bf16 0x0000#16) : Vec Ideal S32768x6144 .bf16)⟩,
       ⟨S32768x1024, (truncf (F := Ideal) (φ := .f32) .bf16 (shapeCast S32768x1024 (oa m c) shapeCasts_S8x4096x1024_S32768x1024) bitsLt_bf16_f32 : Vec Ideal S32768x1024 .bf16)⟩]
      concatenates_S32768x2048_S32768x2048_S32768x6144_S32768x1024_S32768x11264_d1 := by
  unfold V
  after_reads_simp
  rfl

/-- The attention branch's gates. -/
theorem V_ga (n : Fin 32768) (j : Fin 2048) : V m c main_v7 (ix2 n ⟨(j : ℕ), by omega⟩) = gaa m c (ix3 (bt n) (pl n) j) := by
  rw [V_z]
  pointwise
  blk_ext

/-- The recurrence branch's gates. -/
theorem V_gm (n : Fin 32768) (j : Fin 2048) : V m c main_v7 (ix2 n ⟨2048 + (j : ℕ), by omega⟩) = gma m c (ix3 (bt n) (pl n) j) := by
  rw [V_z]
  pointwise
  blk_ext

/-- The output gates. -/
theorem V_o (n : Fin 32768) (j : Fin 1024) : V m c main_v7 (ix2 n ⟨10240 + (j : ℕ), by omega⟩) = oa m c (ix3 (bt n) (pl n) j) := by
  rw [V_z]
  pointwise
  rw [dif_neg (by omega), dif_neg (by omega), dif_neg (by omega)]
  blk_ext

/-- The heads' scale. -/
theorem V_n (k : Fin 1024) : V m c main_v18 (ix2 0 k) = na m c (ix2 0 k) := by
  have h : V m c main_v18 = shapeCast S1x1024 (shapeCast S1024 (na m c) shapeCasts_S1x1024_S1024) shapeCasts_S1024_S1x1024 := by
    unfold V
    after_reads_simp
    rfl
  rw [h]
  pointwise
  blk_ext

/-- The attention branch's projection. -/
theorem V_wa (k : Fin 1024) (e : Fin 2048) : V m c main_v20 (ix2 k e) = wpa m c (ix3 0 k e) := by
  have h : V m c main_v20 = truncf (F := Ideal) (φ := .f32) .bf16 (shapeCast S1024x2048 (wpa m c) shapeCasts_S1x1024x2048_S1024x2048) bitsLt_bf16_f32 := by
    unfold V
    after_reads_simp
    rfl
  rw [h]
  pointwise
  blk_ext

/-- The recurrence branch's projection. -/
theorem V_wm (k : Fin 1024) (e : Fin 2048) : V m c main_v22 (ix2 k e) = wpm m c (ix3 0 k e) := by
  have h : V m c main_v22 = truncf (F := Ideal) (φ := .f32) .bf16 (shapeCast S1024x2048 (wpm m c) shapeCasts_S1x1024x2048_S1024x2048) bitsLt_bf16_f32 := by
    unfold V
    after_reads_simp
    rfl
  rw [h]
  pointwise
  blk_ext

/-- The output projection. -/
theorem V_wo (k e : Fin 2048) : V m c main_v24 (ix2 k e) = woa m c (ix3 0 k e) := by
  have h : V m c main_v24 = truncf (F := Ideal) (φ := .f32) .bf16 (shapeCast S2048x2048 (woa m c) shapeCasts_S1x2048x2048_S2048x2048) bitsLt_bf16_f32 := by
    unfold V
    after_reads_simp
    rfl
  rw [h]
  pointwise
  blk_ext

/-- The layer norm's scale. -/
theorem V_s (e : Fin 2048) : V m c main_v26 (ix2 0 e) = sa m c (ix2 0 e) := by
  have h : V m c main_v26 = shapeCast S1x2048 (shapeCast S2048 (sa m c) shapeCasts_S1x2048_S2048) shapeCasts_S2048_S1x2048 := by
    unfold V
    after_reads_simp
    rfl
  rw [h]
  pointwise
  blk_ext

/-- The layer norm's shift. -/
theorem V_b (e : Fin 2048) : V m c main_v28 (ix2 0 e) = ha m c (ix2 0 e) := by
  have h : V m c main_v28 = shapeCast S1x2048 (shapeCast S2048 (ha m c) shapeCasts_S1x2048_S2048) shapeCasts_S2048_S1x2048 := by
    unfold V
    after_reads_simp
    rfl
  rw [h]
  pointwise
  blk_ext

/-- The printed index maps of the windows. -/
theorem idx_val : ∀ t : Fin cfg0.N, win0_0.index t = ![t.val, 0] ∧ win0_1.index t = ![t.val, 0] ∧ win0_2.index t = ![t.val, 0]
    ∧ win0_3.index t = ![t.val, 10] ∧ win0_4.index t = ![t.val, 0] ∧ win0_5.index t = ![t.val, 0] ∧ win0_6.index t = ![t.val, 1]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

variable (t : Fin cfg0.N) (r : Fin 512) (n : Fin 32768) (hn : (n : ℕ) = (t : ℕ) * 512 + r)
include hn

/-- The rows of inputs of a grid point. -/
theorem x_blk (e : Fin 2048) : iblk m c 0 t (ix2 r e) = xa m c (ix3 (bt n) (pl n) e) := by
  have ht := lt_of_lt_of_eq t.isLt N_0
  refine Eq.trans ?_ (V_x m c n e)
  pointwise [iblk]
  blk_ext [idx_val t]

/-- The forward direction's rows. -/
theorem f_blk (k : Fin 1024) : iblk m c 1 t (ix2 r k) = fa m c (ix4 (bt n) ⟨(k : ℕ) / 256, by omega⟩ (pl n) ⟨(k : ℕ) % 256, by omega⟩) := by
  have ht := lt_of_lt_of_eq t.isLt N_0
  refine Eq.trans ?_ (V_f m c n k)
  pointwise [iblk]
  blk_ext [idx_val t]

/-- The backward direction's rows. -/
theorem h_blk (k : Fin 1024) : iblk m c 2 t (ix2 r k) = ba m c (ix4 (bt n) ⟨(k : ℕ) / 256, by omega⟩ (pl n) ⟨(k : ℕ) % 256, by omega⟩) := by
  have ht := lt_of_lt_of_eq t.isLt N_0
  refine Eq.trans ?_ (V_h m c n k)
  pointwise [iblk]
  blk_ext [idx_val t]

/-- The output gates' rows. -/
theorem o_blk (k : Fin 1024) : iblk m c 3 t (ix2 r k) = oa m c (ix3 (bt n) (pl n) k) := by
  have ht := lt_of_lt_of_eq t.isLt N_0
  refine Eq.trans ?_ (V_o m c n k)
  pointwise [iblk]
  blk_ext [idx_val t]

/-- The attention's rows. -/
theorem y_blk (k : Fin 1024) : iblk m c 4 t (ix2 r k) = ya m c (ix3 (bt n) (pl n) k) := by
  have ht := lt_of_lt_of_eq t.isLt N_0
  refine Eq.trans ?_ (V_y m c n k)
  pointwise [iblk]
  blk_ext [idx_val t]

/-- The attention branch's gates' rows. -/
theorem ga_blk (j : Fin 2048) : X0_5 m c t (ix2 r j) = gaa m c (ix3 (bt n) (pl n) j) := by
  have ht := lt_of_lt_of_eq t.isLt N_0
  refine Eq.trans ?_ (V_ga m c n j)
  unfold X0_5 Pipeline.Window.fill
  rw [dif_pos (moved0_5 t (ix2 r j))]
  pointwise [iblk]
  blk_ext [idx_val t]

/-- The recurrence branch's gates' rows. -/
theorem gm_blk (j : Fin 2048) : X0_6 m c t (ix2 r j) = gma m c (ix3 (bt n) (pl n) j) := by
  have ht := lt_of_lt_of_eq t.isLt N_0
  refine Eq.trans ?_ (V_gm m c n j)
  unfold X0_6 Pipeline.Window.fill
  rw [dif_pos (moved0_6 t (ix2 r j))]
  pointwise [iblk]
  blk_ext [idx_val t]

omit hn

/-- The heads' scale of a grid point. -/
theorem n_blk (k : Fin 1024) : iblk m c 7 t (ix2 0 k) = na m c (ix2 0 k) := by
  refine Eq.trans ?_ (V_n m c k)
  pointwise [iblk]
  blk_ext [idx_val t]

/-- The attention branch's projection. -/
theorem wa_blk (k : Fin 1024) (e : Fin 2048) : iblk m c 8 t (ix2 k e) = wpa m c (ix3 0 k e) := by
  refine Eq.trans ?_ (V_wa m c k e)
  pointwise [iblk]
  blk_ext [idx_val t]

/-- The recurrence branch's projection. -/
theorem wm_blk (k : Fin 1024) (e : Fin 2048) : iblk m c 9 t (ix2 k e) = wpm m c (ix3 0 k e) := by
  refine Eq.trans ?_ (V_wm m c k e)
  pointwise [iblk]
  blk_ext [idx_val t]

/-- The output projection. -/
theorem wo_blk (k e : Fin 2048) : iblk m c 10 t (ix2 k e) = woa m c (ix3 0 k e) := by
  refine Eq.trans ?_ (V_wo m c k e)
  pointwise [iblk]
  blk_ext [idx_val t]

/-- The layer norm's scale. -/
theorem s_blk (e : Fin 2048) : iblk m c 11 t (ix2 0 e) = sa m c (ix2 0 e) := by
  refine Eq.trans ?_ (V_s m c e)
  pointwise [iblk]
  blk_ext [idx_val t]

/-- The layer norm's shift. -/
theorem b_blk (e : Fin 2048) : iblk m c 12 t (ix2 0 e) = ha m c (ix2 0 e) := by
  refine Eq.trans ?_ (V_b m c e)
  pointwise [iblk]
  blk_ext [idx_val t]

end MergeRead
end
-- ==== Proof.MergeRef.lean ====
/- What the reference of the merge computes, element by element. -/
module

public import proofs.«01_k».proof.Proof.MergeTile
public import proofs.«01_k».proof.Proof.Gen.MergeRefIdeal.Run
public import Idealize.ShloMosaic.Lib.Pointwise
public import Idealize.ShloMosaic.Lib.Pipeline.ValueKit

@[expose] public section

set_option maxRecDepth 16384

noncomputable section

namespace MergeRef

open Idealize.ShloMosaic Idealize.ShloMosaic.TcCoe Idealize.SL.Sem
open FfnTile MergeTile

/-- The merge of token `n`, output `d`. -/
def block (x : Vec Ideal Cert.MergeRefIdeal.S8x4096x2048 .f32) (hf hb : Vec Ideal Cert.MergeRefIdeal.S8x4x4096x256 .f32)
    (o y : Vec Ideal Cert.MergeRefIdeal.S8x4096x1024 .f32) (ga gm : Vec Ideal Cert.MergeRefIdeal.S8x4096x2048 .f32)
    (ng : Vec Ideal Cert.MergeRefIdeal.S1x1024 .f32) (wa wm : Vec Ideal Cert.MergeRefIdeal.S1x1024x2048 .f32)
    (wo : Vec Ideal Cert.MergeRefIdeal.S1x2048x2048 .f32) (g b : Vec Ideal Cert.MergeRefIdeal.S1x2048 .f32) (i : Fin 8) (n : Fin 4096) (d : Fin 2048) : EReal :=
  norm (summed (fun e => x (ix3 i n e)) (merged (fun k => y (ix3 i n k))
      (branch (fun k => hf (ix4 i ⟨(k : ℕ) / 256, by omega⟩ n ⟨(k : ℕ) % 256, by omega⟩))
        (fun k => hb (ix4 i ⟨(k : ℕ) / 256, by omega⟩ n ⟨(k : ℕ) % 256, by omega⟩)) (fun k => ng (ix2 0 k)) fun k => o (ix3 i n k))
      (fun j => ga (ix3 i n j)) (fun j => gm (ix3 i n j)) (fun k j => wa (ix3 0 k j)) fun k j => wm (ix3 0 k j)) fun j e => wo (ix3 0 j e))
    (fun e => g (ix2 0 e)) (fun e => b (ix2 0 e)) d

open Cert.MergeRefIdeal Cert.MergeRefIdeal.Gen Cert.MergeRefIdeal.Value

/-- The means of the heads' rows. -/
def hMeans (Y : FVec Ideal S8x4x4096x256 .f32) : FVec Ideal S8x4x4096x1 .f32 :=
  Host.divf (broadcastInDim S8x4x4096x1 ![0, 1, 2] bcast_S8x4x4096_S8x4x4096x1_0_1_2
      (Host.reduceAdd Y (constant S_ .f32 0x00000000#32) reducesTo_S8x4x4096x256_S8x4x4096_d3 h_S_))
    (broadcastInDim S8x4x4096x1 ![] bcast_S_S8x4x4096x1 (constant S_ .f32 0x43800000#32))

/-- The heads' rows less their means. -/
def hCentred (Y : FVec Ideal S8x4x4096x256 .f32) : FVec Ideal S8x4x4096x256 .f32 :=
  subf Y (broadcastInDim S8x4x4096x256 ![0, 1, 2, 3] bcast_S8x4x4096x1_S8x4x4096x256_0_1_2_3 (hMeans Y))

/-- The heads' rows normalised. -/
def hNormed (Y : FVec Ideal S8x4x4096x256 .f32) : FVec Ideal S8x4x4096x256 .f32 :=
  mulf (hCentred Y) (broadcastInDim S8x4x4096x256 ![0, 1, 2, 3] bcast_S8x4x4096x1_S8x4x4096x256_0_1_2_3
    (Host.rsqrt (addf (hMeans (mulf (hCentred Y) (hCentred Y)))
      (broadcastInDim S8x4x4096x1 ![] bcast_S_S8x4x4096x1 (constant S_ .f32 0x3727C5AC#32)))))

/-- The heads' scale, over the tokens. -/
def hScale (ng : Vec Ideal S1x1024 .f32) : FVec Ideal S8x4x4096x256 .f32 :=
  broadcastInDim S8x4x4096x256 ![0, 1, 2, 3] bcast_S1x4x1x256_S8x4x4096x256_0_1_2_3
    (broadcastInDim S1x4x1x256 ![1, 3] bcast_S4x256_S1x4x1x256_1_3
      (shapeCast S4x256 (shapeCast S1024 ng shapeCasts_S1x1024_S1024) shapeCasts_S1024_S4x256))

/-- The heads side by side. -/
def flat (Y : FVec Ideal S8x4x4096x256 .f32) : FVec Ideal S8x4096x1024 .f32 :=
  shapeCast S8x4096x1024 (transpose S8x4096x4x256 [0, 2, 1, 3] Y transposes_S8x4x4096x256_S8x4096x4x256_0_2_1_3) shapeCasts_S8x4096x4x256_S8x4096x1024

/-- The logistic function of the output gates. -/
def sigO (o : Vec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf (F := Ideal) (φ := .f32) o)))

/-- The logistic function of a branch's gates. -/
def sigG (g : Vec Ideal S8x4096x2048 .f32) : FVec Ideal S8x4096x2048 .f32 :=
  Host.divf (broadcastInDim S8x4096x2048 ![] bcast_S_S8x4096x2048 (constant S_ .f32 0x3F800000#32))
    (addf (broadcastInDim S8x4096x2048 ![] bcast_S_S8x4096x2048 (constant S_ .f32 0x3F800000#32)) (Host.exp (Host.negf (F := Ideal) (φ := .f32) g)))

/-- The recurrence's branch. -/
def rec (hf hb : Vec Ideal S8x4x4096x256 .f32) (ng : Vec Ideal S1x1024 .f32) (o : Vec Ideal S8x4096x1024 .f32) : FVec Ideal S8x4096x1024 .f32 :=
  mulf (flat (mulf (hNormed (addf (F := Ideal) (φ := .f32) hf hb)) (hScale ng))) (sigO o)

/-- A branch's projection. -/
def proj (y : FVec Ideal S8x4096x1024 .f32) (w : Vec Ideal S1x1024x2048 .f32) : FVec Ideal S8x4096x2048 .f32 :=
  Host.dotGeneral (F := Ideal) (φ₁ := .f32) (φ₂ := .f32) dot_S8x4096x1024_S1024x2048_S8x4096x2048_2_0_01_1_n_n none y
    (shapeCast S1024x2048 w shapeCasts_S1x1024x2048_S1024x2048)

/-- The scaled input plus the projected merge. -/
def total (x : Vec Ideal S8x4096x2048 .f32) (P Q : FVec Ideal S8x4096x2048 .f32) (ga gm : Vec Ideal S8x4096x2048 .f32)
    (wo : Vec Ideal S1x2048x2048 .f32) : FVec Ideal S8x4096x2048 .f32 :=
  addf (mulf (broadcastInDim S8x4096x2048 ![] bcast_S_S8x4096x2048 (constant S_ .f32 0x3F9837F0#32)) x)
    (Host.dotGeneral (F := Ideal) (φ₁ := .f32) (φ₂ := .f32) dot_S8x4096x2048_S2048x2048_S8x4096x2048_2_0_01_1_n_n none
      (addf (mulf (sigG ga) P) (mulf (sigG gm) Q)) (shapeCast S2048x2048 wo shapeCasts_S1x2048x2048_S2048x2048))

/-- The means of the rows. -/
def means (Y : FVec Ideal S8x4096x2048 .f32) : FVec Ideal S8x4096x1 .f32 :=
  Host.divf (broadcastInDim S8x4096x1 ![0, 1] bcast_S8x4096_S8x4096x1_0_1
      (Host.reduceAdd Y (constant S_ .f32 0x00000000#32) reducesTo_S8x4096x2048_S8x4096_d2 h_S_))
    (broadcastInDim S8x4096x1 ![] bcast_S_S8x4096x1 (constant S_ .f32 0x45000000#32))

/-- The rows less their means. -/
def centred (Y : FVec Ideal S8x4096x2048 .f32) : FVec Ideal S8x4096x2048 .f32 :=
  subf Y (broadcastInDim S8x4096x2048 ![0, 1, 2] bcast_S8x4096x1_S8x4096x2048_0_1_2 (means Y))

/-- The layer norm of the rows. -/
def normed (Y : FVec Ideal S8x4096x2048 .f32) (g b : Vec Ideal S1x2048 .f32) : FVec Ideal S8x4096x2048 .f32 :=
  addf (mulf (mulf (centred Y) (broadcastInDim S8x4096x2048 ![0, 1, 2] bcast_S8x4096x1_S8x4096x2048_0_1_2
      (Host.rsqrt (addf (means (mulf (centred Y) (centred Y)))
        (broadcastInDim S8x4096x1 ![] bcast_S_S8x4096x1 (constant S_ .f32 0x3727C5AC#32))))))
    (broadcastInDim S8x4096x2048 ![0, 1, 2] bcast_S1x1x2048_S8x4096x2048_0_1_2
      (broadcastInDim S1x1x2048 ![2] bcast_S2048_S1x1x2048_2 (shapeCast S2048 g shapeCasts_S1x2048_S2048))))
    (broadcastInDim S8x4096x2048 ![0, 1, 2] bcast_S1x1x2048_S8x4096x2048_0_1_2
      (broadcastInDim S1x1x2048 ![2] bcast_S2048_S1x1x2048_2 (shapeCast S2048 b shapeCasts_S1x2048_S2048)))

variable (i : Fin 8) (n : Fin 4096)

/-- The means, head by head. -/
theorem hMeans_at (Y : FVec Ideal S8x4x4096x256 .f32) (h : Fin 4) : hMeans Y (ix4 i h n 0) = headMean fun e => Y (ix4 i h n e) := by
  pointwise [hMeans]
  rfl

/-- A head's row less its mean. -/
theorem hCentred_at (Y : FVec Ideal S8x4x4096x256 .f32) (h : Fin 4) (e : Fin 256) :
    hCentred Y (ix4 i h n e) = (Y (ix4 i h n e) - headMean fun e => Y (ix4 i h n e) : EReal) := by
  pointwise [hCentred, hMeans_at]

/-- A head's row normalised. -/
theorem hNormed_at (Y : FVec Ideal S8x4x4096x256 .f32) (h : Fin 4) (e : Fin 256) :
    hNormed Y (ix4 i h n e) = headNorm (fun e => Y (ix4 i h n e)) e := by
  pointwise [hNormed, hMeans_at, hCentred_at]
  rfl

/-- The heads' scale. -/
theorem hScale_at (ng : Vec Ideal S1x1024 .f32) (h : Fin 4) (e : Fin 256) : hScale ng (ix4 i h n e) = ng (ix2 0 (at4 h e)) := by
  pointwise [hScale]
  blk_ext

/-- The heads side by side. -/
theorem flat_at (Y : FVec Ideal S8x4x4096x256 .f32) (k : Fin 1024) :
    flat Y (ix3 i n k) = Y (ix4 i ⟨(k : ℕ) / 256, by omega⟩ n ⟨(k : ℕ) % 256, by omega⟩) := by
  pointwise [flat]
  blk_ext

/-- The output gates. -/
theorem sigO_at (o : Vec Ideal S8x4096x1024 .f32) (k : Fin 1024) : sigO o (ix3 i n k) = MergeTile.sig (o (ix3 i n k)) := by
  pointwise [sigO]
  simp only [MergeTile.sig, zero_sub]

/-- A branch's gates. -/
theorem sigG_at (g : Vec Ideal S8x4096x2048 .f32) (j : Fin 2048) : sigG g (ix3 i n j) = MergeTile.sig (g (ix3 i n j)) := by
  pointwise [sigG]
  simp only [MergeTile.sig, zero_sub]

/-- The recurrence's branch of a token. -/
theorem rec_at (hf hb : Vec Ideal S8x4x4096x256 .f32) (ng : Vec Ideal S1x1024 .f32) (o : Vec Ideal S8x4096x1024 .f32) (k : Fin 1024) :
    rec hf hb ng o (ix3 i n k) = branch (fun k => hf (ix4 i ⟨(k : ℕ) / 256, by omega⟩ n ⟨(k : ℕ) % 256, by omega⟩))
        (fun k => hb (ix4 i ⟨(k : ℕ) / 256, by omega⟩ n ⟨(k : ℕ) % 256, by omega⟩)) (fun k => ng (ix2 0 k)) (fun k => o (ix3 i n k)) k := by
  have k' : at4 ⟨(k : ℕ) / 256, by omega⟩ ⟨(k : ℕ) % 256, by omega⟩ = k := Fin.ext (by simp only; omega)
  pointwise [rec, flat_at, hNormed_at, hScale_at, sigO_at]
  unfold branch
  simp only [k']
  refine congrArg (fun Y => headNorm Y _ * ng (ix2 0 k) * MergeTile.sig (o (ix3 i n k))) (funext fun e => ?_)
  have a : (⟨((k : ℕ) / 256 * 256 + e) / 256, by omega⟩ : Fin 4) = ⟨(k : ℕ) / 256, by omega⟩ := Fin.ext (by simp only; omega)
  have b : (⟨((k : ℕ) / 256 * 256 + e) % 256, by omega⟩ : Fin 256) = e := Fin.ext (by simp only; omega)
  rw [a, b]

/-- A branch's projection of a token. -/
theorem proj_at (y : FVec Ideal S8x4096x1024 .f32) (w : Vec Ideal S1x1024x2048 .f32) (j : Fin 2048) :
    proj y w (ix3 i n j) = (∑ k : Fin 1024, y (ix3 i n k) * w (ix3 0 k j) : EReal) := by
  pointwise [proj]

/-- The sum, element by element. -/
theorem total_at (x : Vec Ideal S8x4096x2048 .f32) (P Q : FVec Ideal S8x4096x2048 .f32) (ga gm : Vec Ideal S8x4096x2048 .f32)
    (wo : Vec Ideal S1x2048x2048 .f32) (e : Fin 2048) : total x P Q ga gm wo (ix3 i n e)
      = summed (fun e => x (ix3 i n e)) (fun j => (MergeTile.sig (ga (ix3 i n j)) * P (ix3 i n j) + MergeTile.sig (gm (ix3 i n j)) * Q (ix3 i n j) : EReal))
          (fun j e => wo (ix3 0 j e)) e := by
  pointwise [total, sigG_at]
  rfl

/-- The means, row by row. -/
theorem means_at (Y : FVec Ideal S8x4096x2048 .f32) (i : Fin 8) (n : Fin 4096) :
    means Y (ix3 i n 0) = mean fun e => Y (ix3 i n e) := by
  pointwise [means]
  rfl

/-- A row less its mean. -/
theorem centred_at (Y : FVec Ideal S8x4096x2048 .f32) (i : Fin 8) (n : Fin 4096) (e : Fin 2048) :
    centred Y (ix3 i n e) = (Y (ix3 i n e) - mean fun e => Y (ix3 i n e) : EReal) := by
  pointwise [centred, means_at]

/-- The layer norm of a row. -/
theorem normed_at (Y : FVec Ideal S8x4096x2048 .f32) (g b : Vec Ideal S1x2048 .f32) (i : Fin 8) (n : Fin 4096) (d : Fin 2048) :
    normed Y g b (ix3 i n d) = norm (fun e => Y (ix3 i n e)) (fun e => g (ix2 0 e)) (fun e => b (ix2 0 e)) d := by
  pointwise [normed, means_at, centred_at]
  rfl

variable (m : (ℓ : Loc nD τ sig) → Buf (Elt Ideal) ℓ) (c : Dev nD)

/-- The reference's result in these steps. -/
theorem res_eq : res_out0 m c = shapeCast S32768x2048 (normed (total (m ((c : Thread nD τ).loc main_arg0))
    (proj (m ((c : Thread nD τ).loc main_arg4)) (m ((c : Thread nD τ).loc main_arg8)))
    (proj (rec (m ((c : Thread nD τ).loc main_arg1)) (m ((c : Thread nD τ).loc main_arg2)) (m ((c : Thread nD τ).loc main_arg7))
      (m ((c : Thread nD τ).loc main_arg3))) (m ((c : Thread nD τ).loc main_arg9)))
    (m ((c : Thread nD τ).loc main_arg5)) (m ((c : Thread nD τ).loc main_arg6)) (m ((c : Thread nD τ).loc main_arg10)))
    (m ((c : Thread nD τ).loc main_arg11)) (m ((c : Thread nD τ).loc main_arg12))) shapeCasts_S8x4096x2048_S32768x2048 := by
  unfold res_out0 res_main_v83 normed centred means total proj rec sigG sigO flat hScale hNormed hCentred hMeans
  rfl

/-- The last reshape: token `n` of the list is token `n % 4096` of batch `n / 4096`. -/
theorem list_at (Z : FVec Ideal S8x4096x2048 .f32) (n : Fin 32768) (d : Fin 2048) :
    shapeCast S32768x2048 Z shapeCasts_S8x4096x2048_S32768x2048 (ix2 n d) = Z (ix3 ⟨(n : ℕ) / 4096, by omega⟩ ⟨(n : ℕ) % 4096, by omega⟩ d) := by
  pointwise
  blk_ext

/-- The reference's result at token `n`, output `d`. -/
theorem ref_at (n : Fin 32768) (d : Fin 2048) : res_out0 m c (ix2 n d)
    = block (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) ⟨(n : ℕ) / 4096, by omega⟩ ⟨(n : ℕ) % 4096, by omega⟩ d := by
  refine (congrFun (res_eq m c) _).trans ((list_at _ n d).trans ((normed_at _ _ _ _ _ d).trans ?_))
  unfold block
  refine congrArg (fun Y => norm Y _ _ d) (funext fun e => (total_at _ _ _ _ _ _ _ _ e).trans ?_)
  refine congrArg (fun M => summed _ M _ e) (funext fun j => ?_)
  unfold merged
  rw [proj_at, proj_at]
  simp only [rec_at]

end MergeRef
end
-- ==== Proof.MergeBlock.lean ====
/- The merge kernel's output, whole. -/
module

public import proofs.«01_k».proof.Proof.MergeTile
public import proofs.«01_k».proof.Proof.MergeRead
public import proofs.«01_k».proof.Proof.MergeRef
public import Idealize.ShloMosaic.Lib.Pipeline.ReadBack

@[expose] public section

set_option maxRecDepth 16384

noncomputable section

namespace MergeBlock

open Idealize.ShloMosaic Idealize.ShloMosaic.TcCoe Idealize.SL.Sem
open Cert.MergeIdeal Cert.MergeIdeal.Gen FfnTile MergeTile MergeRead

variable (m : (ℓ : Loc nD τ sig) → Buf (Elt Ideal) ℓ) (c : Dev nD)

/-- An index of a block by its two coordinates. -/
theorem two {n k : ℕ} (y : (⟨2, ![n, k]⟩ : Shape).Idx) (a : Fin n) (d : Fin k) (ha : (y 0 : ℕ) = a) (hd : (y 1 : ℕ) = d) : y = ix2 a d :=
  funext fun z => match z with | ⟨0, _⟩ => Fin.ext ha | ⟨1, _⟩ => Fin.ext hd

/-- The merge of token `n`, output `d`. -/
abbrev out (n : Fin 32768) (d : Fin 2048) : EReal :=
  MergeRef.block (xa m c) (fa m c) (ba m c) (oa m c) (ya m c) (gaa m c) (gma m c) (na m c) (wpa m c) (wpm m c) (woa m c) (sa m c) (ha m c)
    (bt n) (pl n) d

/-- What a grid point leaves. -/
theorem point (t : Fin cfg0.N) (r : Fin 512) (d : Fin 2048) (n : Fin 32768) (hn : (n : ℕ) = (t : ℕ) * 512 + r) :
    (outsAt0 m c t (ix2 r d) : EReal) = out m c n d := by
  unfold outsAt0
  frame_out
  refine (norm_at r _ _ _ _ d).trans ?_
  have em (e : Fin 2048) := mix_at r (k0_pay7 (k0_pay2 (iblk m c 1 t) (iblk m c 2 t)) (k0_pay3 (iblk m c 1 t) (iblk m c 2 t)) (k0_pay4 (iblk m c 1 t) (iblk m c 2 t)) (k0_pay5 (iblk m c 1 t) (iblk m c 2 t)) (k0_pay6 (iblk m c 1 t) (iblk m c 2 t)) (iblk m c 7 t))
    (iblk m c 3 t) (iblk m c 4 t) (X0_5 m c t) (X0_6 m c t) (iblk m c 8 t) (iblk m c 9 t) (iblk m c 10 t) e
  unfold out MergeRef.block
  refine congrFun (congr (congr (congrArg norm (funext fun e => ?_)) (funext (s_blk m c t))) (funext (b_blk m c t))) d
  refine (congr (congrArg HAdd.hAdd (congrArg (Ideal.ofBits FTy.f32 1066940400#32 * ·) (x_blk m c t r n hn e))) (em e)).trans ?_
  unfold summed
  refine congrArg (_ + ·) (Finset.sum_congr rfl fun j _ => congr (congrArg HMul.hMul ?_) (wo_blk m c t j e))
  refine congrFun (congr (congr (congr (congr (congr (congrArg merged (funext (y_blk m c t r n hn))) (funext fun k => ?_))
    (funext (ga_blk m c t r n hn))) (funext (gm_blk m c t r n hn))) (funext fun k => funext (wa_blk m c t k))) (funext fun k => funext (wm_blk m c t k))) j
  unfold branch
  refine congr (congrArg HMul.hMul ((heads _ _ r _ k).trans ?_)) (congrArg MergeTile.sig (o_blk m c t r n hn k))
  refine congr (congrArg HMul.hMul (congrArg (fun Y => headNorm Y _) (funext fun e' => ?_))) (n_blk m c t k)
  exact congr (congrArg HAdd.hAdd (f_blk m c t r n hn _)) (h_blk m c t r n hn _)

/-- The kernel's result, whole. -/
theorem final : (dats m 0 c).arrAt 13 cfg0.N = fun i : S32768x2048.Idx => out m c (i 0) (i 1) := by
  refine (dats m 0 c).arrAt_eq_of_covers 13 _ (by decide +kernel) fun t hf y => ?_
  have ht := lt_of_lt_of_eq t.isLt N_0
  have h0 := (y 0).isLt
  have h1 := (y 1).isLt
  simp at h0 h1
  blk_simp
  rw [after0_13]
  refine (congrArg (outsAt0 m c t) (two y ⟨_, h0⟩ ⟨_, h1⟩ rfl rfl)).trans ?_
  refine (point m c t ⟨_, h0⟩ ⟨_, h1⟩ _ ?_).trans (congrArg (out m c _) (Fin.ext ?_))
  all_goals (blk_simp [idx_val t])

end MergeBlock
end
-- ==== Proof.MergeClaim.lean ====
/- The claim about the merge: the kernel's over the reals is the reference's. -/
module

public import proofs.«01_k».proof.Proof.MergeBlock
public import proofs.«01_k».proof.Proof.MergeRef
public import proofs.«01_k».proof.Defs
public import Idealize.ShloMosaic.Lib.Claim

@[expose] public section

set_option maxRecDepth 16384

noncomputable section

open Idealize.ShloMosaic Idealize.ShloMosaic.TcCoe Idealize.SL.Sem

namespace MergeClaim

/-- The merge of equal arguments. -/
theorem block_congr {x x' : Vec Ideal Cert.MergeRefIdeal.S8x4096x2048 .f32} {f f' h h' : Vec Ideal Cert.MergeRefIdeal.S8x4x4096x256 .f32} {o o' y y' : Vec Ideal Cert.MergeRefIdeal.S8x4096x1024 .f32} {u u' v v' : Vec Ideal Cert.MergeRefIdeal.S8x4096x2048 .f32}
    {q q' : Vec Ideal Cert.MergeRefIdeal.S1x1024 .f32} {a a' b b' : Vec Ideal Cert.MergeRefIdeal.S1x1024x2048 .f32} {w w' : Vec Ideal Cert.MergeRefIdeal.S1x2048x2048 .f32} {s s' t t' : Vec Ideal Cert.MergeRefIdeal.S1x2048 .f32}
    (ex : x = x') (ef : f = f') (eh : h = h') (eo : o = o') (ey : y = y') (eu : u = u') (ev : v = v') (eq : q = q') (ea : a = a') (eb : b = b') (ew : w = w') (es : s = s') (et : t = t') (i : Fin 8) (n : Fin 4096) (d : Fin 2048) :
    MergeRef.block x f h o y u v q a b w s t i n d = MergeRef.block x' f' h' o' y' u' v' q' a' b' w' s' t' i n d := by
  subst ex ef eh eo ey eu ev eq ea eb ew es et
  rfl

set_option maxHeartbeats 1000000 in
/-- Over the reals the kernel's merge is the reference's. -/
theorem algebraic : Cert.algebraic_MergeIdeal_MergeRefIdeal (hMergeIdeal := Cert.MergeIdeal.Gen.facts)
    (hMergeRefIdeal := Cert.MergeRefIdeal.Gen.facts) := by
  intro m g m' g' hpre hag
  refine ⟨fun c => (Cert.MergeIdeal.Gen.dats m 0 c).arrAt 13 Cert.MergeIdeal.cfg0.N, Cert.MergeIdeal.Value.run_blocks m g, ?_⟩
  refine (θ_run _ _ _).mono (fun r h c => ⟨(h c).1.trans ?_, (h c).2⟩) (Cert.MergeRefIdeal.Value.run m' g')
  obtain ⟨e0, e1, e2, e3, e4, e5, e6, e7, e8, e9, e10, e11, e12⟩ := hag c
  refine Eq.trans ?_ (MergeBlock.final m c).symm
  funext i
  obtain ⟨t, d, rfl⟩ : ∃ (t : Fin 32768) (d : Fin 2048), i = ix2 t d :=
    ⟨i 0, i 1, funext fun z => match z with | ⟨0, _⟩ => rfl | ⟨1, _⟩ => rfl⟩
  exact (MergeRef.ref_at m' c t d).trans (block_congr e0 e1 e2 e3 e4 e5 e6 e7 e8 e9 e10 e11 e12 _ _ d)

end MergeClaim
end
-- ==== Proof.ProjRun.lean ====
/- One run of the input projection's body on any buffers: at the first column block of a block of tokens, and at a later one. -/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Pipeline.TableIdle
public import Idealize.ShloMosaic.Lib.Pipeline.ReadBack
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace ProjRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ProjIdeal Cert.ProjIdeal.Gen

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole) (arg3 : Memref sig .tc .vmem S2048x1024 .bf16) (harg3 : arg3.IsWhole)
  (arg4 : Memref sig .tc .vmem S2048x128 .bf16) (harg4 : arg4.IsWhole) (arg5 : Memref sig .tc .vmem S1024x1024 .bf16) (harg5 : arg5.IsWhole)
  (arg6 : Memref sig .tc .vmem S1024x128 .f32) (harg6 : arg6.IsWhole) (arg7 : Memref sig .tc .vmem S1024x2048 .bf16) (harg7 : arg7.IsWhole)
  (x0 : Vec F S1024x2048 .f32) (x1 : Vec F S2048x1024 .bf16) (x2 : Vec F S2048x128 .bf16)

set_option maxHeartbeats 1000000 in
/-- At the first column block the body rounds the tokens into the scratch, writes their gates, and writes the column block. -/
theorem first (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 i (k0_pay1 x0) x1) ∗ owns (c : Thread nD τ) arg6 fullShare (k0_pay2 (k0_pay1 x0) x2)
            ∗ owns (c : Thread nD τ) arg7 fullShare (k0_pay1 x0)) -∗ K ⟨⟩))
      ⊢ wp frame (wpE (defs₀ (F := F)) Variants.none c none) E
          (cc0_in_proj i arg2 harg2 arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0
  obtain rfl := harg3.eq_unread hf1
  obtain rfl := harg4.eq_unread hf2
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e7 : first.sl.v19 c arg2 harg2 arg7 x0 = k0_pay1 x0 := by
    unfold first.sl.v19 first.sl.H5_1
    rw [View.readCov_full, View.readAt_full, hf0]
  isplitl [H3]
  · iexists _; isplitr
    swap; · iexact H3
    ipureintro
    rw [View.read_writes_full, e7, View.readAt_full, hf1]
  isplitl [H4]
  · iexists _; isplitr
    swap; · iexact H4
    ipureintro
    rw [View.read_writes_full, e7, View.readAt_full, hf2]
  iexists _; isplitr
  swap; · iexact H5
  ipureintro
  unfold first.sl.H5_1
  rw [View.read_writes_full, View.readAt_full, hf0]

set_option maxHeartbeats 1000000 in
/-- At a later column block the body writes the column block from what the scratch holds, and leaves the gates. -/
theorem later (hc : ¬k0_cond1 i = 1#1) (s : Vec F S1024x2048 .bf16) (E : Set ℕ) (K : PUnit → sProp 𝕄) :
    iprop(owns (c : Thread nD τ) arg3 fullShare x1 ∗ (∃ d, owns (c : Thread nD τ) arg5 fullShare d) ∗ owns (c : Thread nD τ) arg7 fullShare s
        ∗ (iprop(owns (c : Thread nD τ) arg3 fullShare x1 ∗ owns (c : Thread nD τ) arg5 fullShare (k0_pay3 i s x1)
            ∗ owns (c : Thread nD τ) arg7 fullShare s) -∗ K ⟨⟩))
      ⊢ wp frame (wpE (defs₀ (F := F)) Variants.none c none) E
          (cc0_in_proj i arg2 harg2 arg3 harg3 arg4 harg4 arg5 harg5 arg6 harg6 arg7 harg7) K := by
  simp only [cc0_in_proj_eq_skeleton]; unfold cc0_in_proj_skel
  unfold owns
  iintro ⟨⟨%f1, %hf1, H1⟩, ⟨%d3, %f3, -, H3⟩, ⟨%f5, %hf5, H5⟩, Hk⟩
  obtain rfl := harg3.eq_unread hf1
  obtain rfl := harg7.eq_unread hf5
  sl_exec (disch := sl_exact hc)
  sl_step
  iapply Hk
  isplitl [H1]
  · iexists _; isplitr; · ipureintro; exact harg3.read_unread _
    iexact H1
  isplitl [H3]
  · iexists _; isplitr
    swap; · iexact H3
    ipureintro
    rw [View.read_writes_full, View.readAt_full, View.readAt_full, hf1, hf5]
  iexists _; isplitr; · ipureintro; exact harg7.read_unread _
  iexact H5

end ProjRun
end
-- ==== Proof.ProjFrame.lean ====
/- The input projection runs to its end: what its buffers hold at every point of the grid, for any values. -/
module

public import proofs.«01_k».proof.Proof.ProjRun
public import Idealize.ShloMosaic.Lib.Claim

@[expose] public section

set_option maxRecDepth 16384

noncomputable section

namespace ProjFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer holds when the grid starts: the host's operations have run. -/
abbrev V (c : Dev nD) (b : Ref sig .tc) : Buf (Elt F) ((c : Thread nD τ).loc b) :=
  StableHlo.after (List.flatten [hostOps0, hostOps0_1, hostOps0_2]) (fun b => m (c, b)) b

/-- No host operation needs fresh memory. -/
theorem fresh_ops : [hostOps0, hostOps0_1, hostOps0_2].Forall
    fun l : List (HloOp τ sig (Elt F)) => l.Forall fun op => op.fresh = ∅ := by
  simp only [List.Forall]; repeat' constructor

set_option maxHeartbeats 800000 in
/-- The program is the host's operations, then the grid. -/
theorem whole (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩) fresh_ops main_chain

/-- The host's operations leave the tokens. -/
theorem V_x (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- The host's operations leave the weights. -/
theorem V_w (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body starts a block of tokens at every eleventh point. -/
theorem starts : ∀ t : Fin cfg0.N, k0_cond1 (grid0.coords t) = 1#1 ↔ t.val % 11 = 0 :=
  (by decide +kernel : ∀ t : Fin grid0.N, k0_cond1 (grid0.coords t) = 1#1 ↔ t.val % 11 = 0)

/-- The point that started the block of tokens of a point. -/
def row (t : Fin cfg0.N) : Fin cfg0.N := ⟨t.val - t.val % 11, lt_of_le_of_lt (Nat.sub_le _ _) t.isLt⟩

/-- A point that starts a block of tokens. -/
theorem row_first (t : Fin cfg0.N) (h : t.val % 11 = 0) : row t = t := Fin.ext (by simp only [row]; omega)

/-- A later point has the block of tokens of the point before. -/
theorem row_later (t : Fin cfg0.N) (h : ¬t.val % 11 = 0) (hb : t.val - 1 < cfg0.N) : row ⟨t.val - 1, hb⟩ = row t :=
  Fin.ext (by simp only [row]; omega)

/-- What the scratch holds after a point: the block of tokens, rounded. -/
def kept (c : Dev nD) (t : Fin cfg0.N) : Vec F S1024x2048 .bf16 := k0_pay1 (iblk m c 0 (row t))

/-- What a point writes of the column blocks. -/
def zAt (c : Dev nD) (t : Fin cfg0.N) : Vec F S1024x1024 .bf16 := k0_pay3 (grid0.coords t) (kept m c t) (iblk m c 1 t)

/-- What the gates' buffer holds after a point. -/
def gatesAt (c : Dev nD) (t : Fin cfg0.N) : Vec F S1024x128 .f32 := k0_pay2 (kept m c t) (iblk m c 2 (row t))

/-- The scratch, as the body takes it. -/
abbrev scr : Memref sig .tc .vmem S1024x2048 .bf16 := Memref.whole cc0_scratch0

/-- What holds of the scratch before a point: anything at the start, later the block of tokens of the point before. -/
def inv (c : Dev nD) : (n : ℕ) → n ≤ cfg0.N → sProp 𝕄
  | 0, _ => Pipeline.ΦA spec0 c
  | n + 1, hn => iprop(owns (c : Thread nD τ) scr fullShare (kept m c ⟨n, hn⟩) ∗ (∃ r, prngReg c r))

/-- The scratch before the first point. -/
theorem scratch_any (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The scratch after a point. -/
theorem inv_pos (c : Dev nD) (n : ℕ) (h : n ≤ cfg0.N) (hz : n ≠ 0) :
    inv m c n h = iprop(owns (c : Thread nD τ) scr fullShare (kept m c ⟨n - 1, by omega⟩) ∗ (∃ r, prngReg c r)) := by
  cases n with
  | zero => exact absurd rfl hz
  | succ n => rfl

/-- Whatever the scratch holds, it can be handed back. -/
theorem inv_any (c : Dev nD) (n : ℕ) (h : n ≤ cfg0.N) : inv m c n h ⊢ Pipeline.ΦA spec0 c := by
  cases n with
  | zero => exact Idealize.SL.BI.Entails.refl _
  | succ n =>
    rw [scratch_any]
    show iprop(owns (c : Thread nD τ) scr fullShare (kept m c ⟨n, h⟩) ∗ (∃ r, prngReg c r)) ⊢ _
    iintro ⟨H, Hg⟩
    isplitl [H]
    · iexists _; iexact H
    iexact Hg

/-- What every buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zAt m c t
    | ⟨4, _⟩ => gatesAt m c t
  Φ t := inv m c t.val (Nat.le_of_lt_succ t.isLt)
  q _ := fullShare
  owed _ := 0

/-- The arrays are those that the host's operations left. -/
theorem A_eq (c : Dev nD) (w : Fin cfg0.W) : (dats m 0 c).A w = V m c (Pipeline.arrRef spec0 w) := by dsimp only [dats]

/-- After a point the buffer of the tokens is as it was. -/
theorem after0 (c : Dev nD) (t : Fin cfg0.N) : (dats m 0 c).after 0 t = iblk m c 0 t := by dsimp only [dats]
/-- After a point the buffer of the weights is as it was. -/
theorem after1 (c : Dev nD) (t : Fin cfg0.N) : (dats m 0 c).after 1 t = iblk m c 1 t := by dsimp only [dats]
/-- After a point the buffer of the gates' weights is as it was. -/
theorem after2 (c : Dev nD) (t : Fin cfg0.N) : (dats m 0 c).after 2 t = iblk m c 2 t := by dsimp only [dats]
/-- After a point the buffer of the column block holds what the point wrote. -/
theorem after3 (c : Dev nD) (t : Fin cfg0.N) : (dats m 0 c).after 3 t = zAt m c t := by dsimp only [dats]
/-- After a point the buffer of the gates holds the gates of its block of tokens. -/
theorem after4 (c : Dev nD) (t : Fin cfg0.N) : (dats m 0 c).after 4 t = gatesAt m c t := by dsimp only [dats]

/-- Before a point the buffer of the tokens holds their block. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; try rfl)
/-- Before a point the buffer of the weights holds their block. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans (by unfold Dat.fetched Dat.blockOf iblk; rw [A_eq]; try rfl)
/-- Before a point the buffer of the gates' weights holds them. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]) t d).trans (by unfold Dat.fetched Dat.blockOf iblk; rw [A_eq]; try rfl)

/-- The body stores the gates where it starts a block of tokens, -/
theorem busy (t : Fin cfg0.N) (h : t.val % 11 = 0) : cfg0.idle 4 (grid0.coords t) = false := by
  show (!(k0_cond1 (grid0.coords t) == 1#1)) = false
  rw [(starts t).mpr h]; rfl
/-- and nowhere else. -/
theorem idle (t : Fin cfg0.N) (h : ¬t.val % 11 = 0) : cfg0.idle 4 (grid0.coords t) = true := by
  show (!(k0_cond1 (grid0.coords t) == 1#1)) = true
  rw [Bool.not_eq_true', beq_eq_false_iff_ne]
  exact fun e => h ((starts t).mp e)

/-- The gates' buffer holds nothing of its block only where a block of tokens starts. -/
theorem fresh (t : Fin cfg0.N) : cfg0.fresh 4 t.val = decide (t.val % 11 = 0) :=
  Pipeline.Cfg.fresh_tab cfg0 4 (fun n => decide (n % 11 = 0)) rfl (by decide +kernel) t.val (Nat.le_of_lt t.isLt)

/-- Between the points of a block of tokens its gates stay. -/
theorem stay (c : Dev nD) (t : Fin cfg0.N) (h : ¬t.val % 11 = 0) (hb : t.val - 1 < cfg0.N) : gatesAt m c t = gatesAt m c ⟨t.val - 1, hb⟩ := by
  unfold gatesAt kept
  rw [row_later t h hb]

/-- Before a later point the gates' buffer holds the gates of its block of tokens. -/
theorem before4 (c : Dev nD) (t : Fin cfg0.N) (h : ¬t.val % 11 = 0) (d) : (dats m 0 c).before 4 t d = gatesAt m c t := by
  rw [Dat.before_out_traj _ 4 rfl (fun _ _ => rfl) (fun t _ hi _ => ?_) t.val t rfl d, if_neg (by rw [fresh]; simpa using h), after4]
  · exact (stay m c t h _).symm
  · rw [after4, after4]
    refine stay m c t (fun h0 => ?_) _
    rw [busy t h0] at hi
    exact absurd hi Bool.false_ne_true

/-- A later point hands the gates' buffer back as it found it. -/
theorem leave4 (c : Dev nD) (t : Fin cfg0.N) (h : ¬t.val % 11 = 0) :
    owns (c : Thread nD τ) ((cfg0.win 4).stage (cfg0.slots t 4)) fullShare (gatesAt m c t) ⊢ ((dats m 0 c).leavesExact 4 t : sProp 𝕄) := by
  unfold Dat.leavesExact
  rw [idle t h]
  cases (cfg0.win 4).flush t
  · iintro H
    iexists gatesAt m c t
    rw [before4 m c t h]
    iexact H
  · rw [after4]

/-- The body at a point, from what every buffer then holds to what it then leaves. -/
theorem body_at (c : Dev nD) (t : Fin cfg0.N) :
    iprop((dats m 0 c).Φ t.castSucc ∗ (dats m 0 c).owesAt () t.castSucc
      ∗ (∃ d, owns (c : Thread nD τ) ((cfg0.win 0).stage (cfg0.slots t 0)) fullShare ((dats m 0 c).before 0 t d))
      ∗ (∃ d, owns (c : Thread nD τ) ((cfg0.win 1).stage (cfg0.slots t 1)) fullShare ((dats m 0 c).before 1 t d))
      ∗ (∃ d, owns (c : Thread nD τ) ((cfg0.win 2).stage (cfg0.slots t 2)) fullShare ((dats m 0 c).before 2 t d))
      ∗ (∃ d, owns (c : Thread nD τ) ((cfg0.win 3).stage (cfg0.slots t 3)) fullShare ((dats m 0 c).before 3 t d))
      ∗ (∃ d, owns (c : Thread nD τ) ((cfg0.win 4).stage (cfg0.slots t 4)) fullShare ((dats m 0 c).before 4 t d)))
    ⊢ wp frame (wpE (defs₀ (F := F)) Variants.none c none) Set.univ (bodyAt0 t) (fun _ =>
      iprop((dats m 0 c).Φ t.succ ∗ (dats m 0 c).owesAt () t.succ ∗ (dats m 0 c).leavesExact 0 t ∗ (dats m 0 c).leavesExact 1 t
        ∗ (dats m 0 c).leavesExact 2 t ∗ (dats m 0 c).leavesExact 3 t ∗ (dats m 0 c).leavesExact 4 t)) := by
  have s0 : (dats m 0 c).Φ t.castSucc = inv m c t.val (Nat.le_of_lt t.isLt) := by
    dsimp only [dats]; exact Pipeline.Dat.Φ_castSucc (inv m c) t
  have s1 : (dats m 0 c).Φ t.succ = iprop(owns (c : Thread nD τ) scr fullShare (kept m c t) ∗ (∃ r, prngReg c r)) := rfl
  have l0 : (dats m 0 c).leavesExact 0 t = owns (c : Thread nD τ) ((cfg0.win 0).stage (cfg0.slots t 0)) fullShare (iblk m c 0 t) := by
    unfold Dat.leavesExact; rw [show cfg0.idle 0 (grid0.coords t) = false from rfl, after0]
  have l1 : (dats m 0 c).leavesExact 1 t = owns (c : Thread nD τ) ((cfg0.win 1).stage (cfg0.slots t 1)) fullShare (iblk m c 1 t) := by
    unfold Dat.leavesExact; rw [show cfg0.idle 1 (grid0.coords t) = false from rfl, after1]
  have l2 : (dats m 0 c).leavesExact 2 t = owns (c : Thread nD τ) ((cfg0.win 2).stage (cfg0.slots t 2)) fullShare (iblk m c 2 t) := by
    unfold Dat.leavesExact; rw [show cfg0.idle 2 (grid0.coords t) = false from rfl, after2]
  have l3 : (dats m 0 c).leavesExact 3 t = owns (c : Thread nD τ) ((cfg0.win 3).stage (cfg0.slots t 3)) fullShare (zAt m c t) := by
    unfold Dat.leavesExact; rw [show cfg0.idle 3 (grid0.coords t) = false from rfl, after3]
  rw [s0, s1, l0, l1, l2, l3, show (dats m 0 c).owesAt () t.succ = (dats m 0 c).owesAt () t.castSucc from rfl]
  simp only [before0, before1, before2]
  unfold bodyAt0
  by_cases h : t.val % 11 = 0
  · have l4 : (dats m 0 c).leavesExact 4 t = owns (c : Thread nD τ) ((cfg0.win 4).stage (cfg0.slots t 4)) fullShare (gatesAt m c t) := by
      unfold Dat.leavesExact; rw [busy t h, after4]
    rw [l4]
    unfold zAt gatesAt kept
    rw [row_first t h]
    refine (sep_mono (inv_any m c _ _) .rfl).trans ?_
    rw [scratch_any]
    iintro ⟨⟨HS, Hg⟩, Ho, ⟨%d0, H0⟩, ⟨%d1, H1⟩, ⟨%d2, H2⟩, ⟨%d3, H3⟩, ⟨%d4, H4⟩⟩
    iapply (ProjRun.first c (grid0.coords t) _ _ _ _ _ _ _ _ _ _ _ _ (iblk m c 0 t) (iblk m c 1 t) (iblk m c 2 t) ((starts t).mpr h) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hk : kept m c ⟨t.val - 1, by omega⟩ = kept m c t := by
      unfold kept
      rw [row_later t h]
    rw [inv_pos m c _ _ (by omega), hk]
    simp only [before4 m c t h]
    unfold zAt
    iintro ⟨⟨HS, Hg⟩, Ho, ⟨%d0, H0⟩, ⟨%d1, H1⟩, ⟨%d2, H2⟩, ⟨%d3, H3⟩, ⟨%d4, H4⟩⟩
    iapply (ProjRun.later c (grid0.coords t) _ _ _ _ _ _ _ _ _ _ _ _ (iblk m c 1 t) (fun e => h ((starts t).mp e)) (kept m c t) Set.univ _)
    isplitl [H1]; · iexact H1
    isplitl [H3]; · iexists _; iexact H3
    isplitl [HS]; · iexact HS
    iintro ⟨H1, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leave4 m c t h)
    iexact H4

/-- The body keeps to what is said of the buffers, at every point. -/
theorem body_all (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_at m c t) rfl .rfl fun _ => .rfl

-- the library's theorem is applied by unifying its conclusion with the statement, which unfolds definitions in types
set_option backward.isDefEq.respectTransparency.types false in
/-- Every run ends, with each array at what the points wrote into it, and every counter at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_all m c).loose) (hshare := fun c => (dats m 0 c).share_full fun _ => rfl)
    (howed := fun _ _ => rfl) (V := V m) (hmain := whole m Variants.none) (hA := A_eq m)
    (hin := fun c => (.rfl : Pipeline.ΦA spec0 c ⊢ inv m c 0 (Nat.zero_le _))) (hout := fun c => inv_any m c (Fin.last cfg0.N).val (Nat.le_of_lt_succ (Fin.last cfg0.N).isLt))

/-- After a run: the two results, the two arguments and the counters. -/
theorem results : θ_run defs (onTc (τ := τ) (main (F := F))) ⟨m, fun _ => 0, ρ⟩ (fun r => (∀ c : Dev nD,
      r.2.mem ((c.tc : Thread nD τ).loc main_v14_0) = (dats m 0 c).arrAt 3 cfg0.N
      ∧ r.2.mem ((c.tc : Thread nD τ).loc main_v14_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 3, (h.1 c).1 4,
    ((h.1 c).2 main_arg0 (Pipeline.mem_restRefs_of main_arg0 (by decide) (by decide))).trans (V_x m c),
    ((h.1 c).2 main_arg1 (Pipeline.mem_restRefs_of main_arg1 (by decide) (by decide))).trans (V_w m c)⟩, h.2⟩) (run m ρ)

end ProjFrame
end
-- ==== Proof.ProjRead.lean ====
/- What the blocks that the input projection loads hold, in the arguments. -/
module

public import proofs.«01_k».proof.Proof.ProjFrame
public import Idealize.ShloMosaic.Lib.Pointwise
public import Idealize.ShloMosaic.Lib.StableHlo.RunRead
public import Idealize.ShloMosaic.Lib.Pipeline.Value
public import Idealize.ShloMosaic.Lib.Pipeline.ValueKit

@[expose] public section

set_option maxRecDepth 16384

noncomputable section

namespace ProjRead

open Idealize.ShloMosaic Idealize.ShloMosaic.TcCoe Idealize.SL.Sem
open Cert.ProjIdeal Cert.ProjIdeal.Gen ProjFrame

/-- The weights' column that the kernel's column `u` is: the two branches' gates come first, the recurrence's gates are left out. -/
def col (u : Fin 11264) : Fin 11280 := ⟨if (u : ℕ) < 4096 then 7184 + u else u - 4096, by split <;> omega⟩

/-- A column of the gates. -/
theorem col_low (u : Fin 11264) (l : Fin 11280) (h : (u : ℕ) < 4096) (hl : (l : ℕ) = 7184 + u) : col u = l :=
  Fin.ext ((if_pos h).trans hl.symm)

/-- A later column. -/
theorem col_high (u : Fin 11264) (l : Fin 11280) (h : ¬(u : ℕ) < 4096) (hl : (l : ℕ) = u - 4096) : col u = l :=
  Fin.ext ((if_neg h).trans hl.symm)

variable (m : (ℓ : Loc nD τ sig) → Buf (Elt Ideal) ℓ) (c : Dev nD)

/-- The arguments the kernel is run on: the tokens and the weights. -/
abbrev xa : Vec Ideal S8x4096x2048 .f32 := m ((c : Thread nD τ).loc main_arg0)
@[inherit_doc xa] abbrev wa : Vec Ideal S1x2048x11280 .f32 := m ((c : Thread nD τ).loc main_arg1)

/-- The tokens as one list. -/
theorem V_tok (n : Fin 32768) (e : Fin 2048) : V m c main_v13 (ix2 n e) = xa m c (ix3 ⟨(n : ℕ) / 4096, by omega⟩ ⟨(n : ℕ) % 4096, by omega⟩ e) := by
  have h : V m c main_v13 = shapeCast S32768x2048 (xa m c) shapeCasts_S8x4096x2048_S32768x2048 := by
    unfold V
    after_reads_simp
    rfl
  rw [h]
  pointwise
  blk_ext

/-- The weights, rounded. -/
def W : Vec Ideal S2048x11280 .bf16 :=
  truncf (F := Ideal) (φ := .f32) .bf16 (shapeCast S2048x11280 (wa m c) shapeCasts_S1x2048x11280_S2048x11280) bitsLt_bf16_f32

/-- The weights at an index. -/
theorem W_at (e : Fin 2048) (l : Fin 11280) : W m c (ix2 e l) = wa m c (ix3 0 e l) := by
  unfold W
  pointwise
  blk_ext

/-- The pieces of the weights that the kernel's columns are put together from. -/
def pieces : List ((s : Shape) × (s.Idx → Elt Ideal .bf16)) :=
  [⟨S2048x2048, (extractStridedSlice S2048x2048 ![0, 7184] (W m c) slices_S2048x11280_S2048x2048_0_7184 : Vec Ideal S2048x2048 .bf16)⟩,
   ⟨S2048x2048, (extractStridedSlice S2048x2048 ![0, 9232] (W m c) slices_S2048x11280_S2048x2048_0_9232 : Vec Ideal S2048x2048 .bf16)⟩,
   ⟨S2048x1024, (extractStridedSlice S2048x1024 ![0, 0] (W m c) slices_S2048x11280_S2048x1024_0_0 : Vec Ideal S2048x1024 .bf16)⟩,
   ⟨S2048x1024, (extractStridedSlice S2048x1024 ![0, 1024] (W m c) slices_S2048x11280_S2048x1024_0_1024 : Vec Ideal S2048x1024 .bf16)⟩,
   ⟨S2048x1024, (extractStridedSlice S2048x1024 ![0, 2048] (W m c) slices_S2048x11280_S2048x1024_0_2048 : Vec Ideal S2048x1024 .bf16)⟩,
   ⟨S2048x2048, (extractStridedSlice S2048x2048 ![0, 3072] (W m c) slices_S2048x11280_S2048x2048_0_3072 : Vec Ideal S2048x2048 .bf16)⟩,
   ⟨S2048x1024, (extractStridedSlice S2048x1024 ![0, 5120] (W m c) slices_S2048x11280_S2048x1024_0_5120 : Vec Ideal S2048x1024 .bf16)⟩,
   ⟨S2048x1024, (extractStridedSlice S2048x1024 ![0, 6144] (W m c) slices_S2048x11280_S2048x1024_0_6144 : Vec Ideal S2048x1024 .bf16)⟩]

/-- The kernel's columns. -/
theorem V_cols : V m c main_v11 = concatenate S2048x11264 1 (pieces m c)
    concatenates_S2048x2048_S2048x2048_S2048x1024_S2048x1024_S2048x1024_S2048x2048_S2048x1024_S2048x1024_S2048x11264_d1 := by
  unfold V
  after_reads_simp
  rfl

/-- A column that lies in a piece, the pieces before it having `pre` columns. -/
theorem piece (k : ℕ) (hk : k < (pieces m c).length) (w : ℕ) (x : (⟨2, ![2048, w]⟩ : Shape).Idx → Elt Ideal .bf16)
    (hx : (pieces m c)[k] = ⟨⟨2, ![2048, w]⟩, x⟩) (pre : ℕ)
    (hp : ((((pieces m c).take k).map (·.1)).map fun s => if h : s.rank = S2048x11264.rank then s.size ((1 : Fin S2048x11264.rank).cast h.symm) else 0).sum = pre)
    (e : Fin 2048) (u : Fin 11264) (j : Fin w) (hj : (u : ℕ) = pre + j) : V m c main_v11 (ix2 e u) = x (ix2 e j) := by
  rw [V_cols]
  refine Idealize.ShloMosaic.concatenate_apply_piece (1 : Fin S2048x11264.rank) (pieces m c) _ (ix2 e u) k hk _ x hx rfl pre hp (ix2 e j) (fun b hb => ?_) hj.symm
  match b with
  | ⟨0, _⟩ => rfl
  | ⟨1, _⟩ => exact absurd rfl hb

/-- Columns 0 to 2047. -/
theorem V_col0 (e : Fin 2048) (u : Fin 11264) (h : 0 ≤ (u : ℕ)) (h' : (u : ℕ) < 2048) : V m c main_v11 (ix2 e u) = wa m c (ix3 0 e (col u)) := by
  refine (piece m c 0 (by simp [pieces]) 2048 _ rfl 0 (by rfl) e u ⟨u - 0, by omega⟩ (by simp only; omega)).trans ?_
  rw [col_low u ⟨7184 + (u - 0), by omega⟩ (by omega) (by simp only; omega)]
  refine Eq.trans ?_ (W_at m c e _)
  pointwise
  try blk_ext

/-- Columns 2048 to 4095. -/
theorem V_col1 (e : Fin 2048) (u : Fin 11264) (h : 2048 ≤ (u : ℕ)) (h' : (u : ℕ) < 4096) : V m c main_v11 (ix2 e u) = wa m c (ix3 0 e (col u)) := by
  refine (piece m c 1 (by simp [pieces]) 2048 _ rfl 2048 (by rfl) e u ⟨u - 2048, by omega⟩ (by simp only; omega)).trans ?_
  rw [col_low u ⟨9232 + (u - 2048), by omega⟩ (by omega) (by simp only; omega)]
  refine Eq.trans ?_ (W_at m c e _)
  pointwise
  try blk_ext

/-- Columns 4096 to 5119. -/
theorem V_col2 (e : Fin 2048) (u : Fin 11264) (h : 4096 ≤ (u : ℕ)) (h' : (u : ℕ) < 5120) : V m c main_v11 (ix2 e u) = wa m c (ix3 0 e (col u)) := by
  refine (piece m c 2 (by simp [pieces]) 1024 _ rfl 4096 (by rfl) e u ⟨u - 4096, by omega⟩ (by simp only; omega)).trans ?_
  rw [col_high u ⟨0 + (u - 4096), by omega⟩ (by omega) (by simp only; omega)]
  refine Eq.trans ?_ (W_at m c e _)
  pointwise
  try blk_ext

/-- Columns 5120 to 6143. -/
theorem V_col3 (e : Fin 2048) (u : Fin 11264) (h : 5120 ≤ (u : ℕ)) (h' : (u : ℕ) < 6144) : V m c main_v11 (ix2 e u) = wa m c (ix3 0 e (col u)) := by
  refine (piece m c 3 (by simp [pieces]) 1024 _ rfl 5120 (by rfl) e u ⟨u - 5120, by omega⟩ (by simp only; omega)).trans ?_
  rw [col_high u ⟨1024 + (u - 5120), by omega⟩ (by omega) (by simp only; omega)]
  refine Eq.trans ?_ (W_at m c e _)
  pointwise
  try blk_ext

/-- Columns 6144 to 7167. -/
theorem V_col4 (e : Fin 2048) (u : Fin 11264) (h : 6144 ≤ (u : ℕ)) (h' : (u : ℕ) < 7168) : V m c main_v11 (ix2 e u) = wa m c (ix3 0 e (col u)) := by
  refine (piece m c 4 (by simp [pieces]) 1024 _ rfl 6144 (by rfl) e u ⟨u - 6144, by omega⟩ (by simp only; omega)).trans ?_
  rw [col_high u ⟨2048 + (u - 6144), by omega⟩ (by omega) (by simp only; omega)]
  refine Eq.trans ?_ (W_at m c e _)
  pointwise
  try blk_ext

/-- Columns 7168 to 9215. -/
theorem V_col5 (e : Fin 2048) (u : Fin 11264) (h : 7168 ≤ (u : ℕ)) (h' : (u : ℕ) < 9216) : V m c main_v11 (ix2 e u) = wa m c (ix3 0 e (col u)) := by
  refine (piece m c 5 (by simp [pieces]) 2048 _ rfl 7168 (by rfl) e u ⟨u - 7168, by omega⟩ (by simp only; omega)).trans ?_
  rw [col_high u ⟨3072 + (u - 7168), by omega⟩ (by omega) (by simp only; omega)]
  refine Eq.trans ?_ (W_at m c e _)
  pointwise
  try blk_ext

/-- Columns 9216 to 10239. -/
theorem V_col6 (e : Fin 2048) (u : Fin 11264) (h : 9216 ≤ (u : ℕ)) (h' : (u : ℕ) < 10240) : V m c main_v11 (ix2 e u) = wa m c (ix3 0 e (col u)) := by
  refine (piece m c 6 (by simp [pieces]) 1024 _ rfl 9216 (by rfl) e u ⟨u - 9216, by omega⟩ (by simp only; omega)).trans ?_
  rw [col_high u ⟨5120 + (u - 9216), by omega⟩ (by omega) (by simp only; omega)]
  refine Eq.trans ?_ (W_at m c e _)
  pointwise
  try blk_ext

/-- Columns 10240 to 11263. -/
theorem V_col7 (e : Fin 2048) (u : Fin 11264) (h : 10240 ≤ (u : ℕ)) (h' : (u : ℕ) < 11264) : V m c main_v11 (ix2 e u) = wa m c (ix3 0 e (col u)) := by
  refine (piece m c 7 (by simp [pieces]) 1024 _ rfl 10240 (by rfl) e u ⟨u - 10240, by omega⟩ (by simp only; omega)).trans ?_
  rw [col_high u ⟨6144 + (u - 10240), by omega⟩ (by omega) (by simp only; omega)]
  refine Eq.trans ?_ (W_at m c e _)
  pointwise
  try blk_ext

/-- The weights' columns, as the kernel has them. -/
theorem V_col (e : Fin 2048) (u : Fin 11264) : V m c main_v11 (ix2 e u) = wa m c (ix3 0 e (col u)) := by
  by_cases h0 : (u : ℕ) < 2048
  · exact V_col0 m c e u (by omega) h0
  by_cases h1 : (u : ℕ) < 4096
  · exact V_col1 m c e u (by omega) h1
  by_cases h2 : (u : ℕ) < 5120
  · exact V_col2 m c e u (by omega) h2
  by_cases h3 : (u : ℕ) < 6144
  · exact V_col3 m c e u (by omega) h3
  by_cases h4 : (u : ℕ) < 7168
  · exact V_col4 m c e u (by omega) h4
  by_cases h5 : (u : ℕ) < 9216
  · exact V_col5 m c e u (by omega) h5
  by_cases h6 : (u : ℕ) < 10240
  · exact V_col6 m c e u (by omega) h6
  exact V_col7 m c e u (by omega) (by omega)

/-- The word zero as a number. -/
theorem zero_word : (FloatOps.sitofp (F := Ideal) FTy.bf16 (0#32 : BitVec 32) : EReal) = 0 := by
  show (((0#32 : BitVec 32).toInt : ℝ) : EReal) = 0
  simp

/-- The gates' columns, and zeros after them. -/
theorem V_gates (e : Fin 2048) (g : Fin 128) : V m c main_v12 (ix2 e g)
    = if h : (g : ℕ) < 16 then wa m c (ix3 0 e ⟨7168 + (g : ℕ), by omega⟩) else (0 : EReal) := by
  have h : V m c main_v12 = pad S2048x128 ![0, 0] ![0, 112] ![0, 0]
      (extractStridedSlice S2048x16 ![0, 7168] (W m c) slices_S2048x11280_S2048x16_0_7168 : Vec Ideal S2048x16 .bf16)
      (sitofp (F := Ideal) .bf16 (constantI S_ 32 0#32) : Vec Ideal S_ .bf16) pads_S2048x16_S2048x128_000_01120 h_S_ := by
    unfold V
    after_reads_simp
    rfl
  rw [h]
  by_cases hg : (g : ℕ) < 16
  · rw [dif_pos hg]
    refine Eq.trans ?_ (W_at m c e _)
    pointwise
    rw [dif_pos hg]
  · rw [dif_neg hg]
    pointwise
    rw [dif_neg hg]
    exact zero_word

/-- The printed index maps of the windows. -/
theorem idx_val : ∀ t : Fin cfg0.N, win0_0.index t = ![t.val / 11, 0] ∧ win0_1.index t = ![0, t.val % 11] ∧ win0_2.index t = ![0, 0]
    ∧ win0_3.index t = ![t.val / 11, t.val % 11] ∧ win0_4.index t = ![t.val / 11, 0] :=
  (by decide +kernel : ∀ t : Fin grid0.N, _)

/-- The rows of tokens of a grid point. -/
theorem x_blk (t : Fin cfg0.N) (r : Fin 1024) (e : Fin 2048) (n : Fin 32768) (hn : (n : ℕ) = (t : ℕ) / 11 * 1024 + r) :
    iblk m c 0 t (ix2 r e) = xa m c (ix3 ⟨(n : ℕ) / 4096, by omega⟩ ⟨(n : ℕ) % 4096, by omega⟩ e) := by
  have ht := lt_of_lt_of_eq t.isLt N_0
  refine Eq.trans ?_ (V_tok m c n e)
  pointwise [iblk]
  blk_ext [idx_val t]

/-- The weights' columns of a grid point. -/
theorem w_blk (t : Fin cfg0.N) (e : Fin 2048) (k : Fin 1024) (u : Fin 11264) (hu : (u : ℕ) = (t : ℕ) % 11 * 1024 + k) :
    iblk m c 1 t (ix2 e k) = wa m c (ix3 0 e (col u)) := by
  have ht := lt_of_lt_of_eq t.isLt N_0
  refine Eq.trans ?_ (V_col m c e u)
  pointwise [iblk]
  blk_ext [idx_val t]

/-- The gates' weights of a grid point. -/
theorem g_blk (t : Fin cfg0.N) (e : Fin 2048) (g : Fin 128) :
    iblk m c 2 t (ix2 e g) = if h : (g : ℕ) < 16 then wa m c (ix3 0 e ⟨7168 + (g : ℕ), by omega⟩) else (0 : EReal) := by
  have ht := lt_of_lt_of_eq t.isLt N_0
  refine Eq.trans ?_ (V_gates m c e g)
  pointwise [iblk]
  blk_ext [idx_val t]

end ProjRead
end
-- ==== Proof.ProjTile.lean ====
/- What each stored tile of the input projection is, element by element. -/
module

public import proofs.«01_k».proof.Proof.ProjRead
public import Idealize.ShloMosaic.Lib.Pointwise
public import Idealize.ShloMosaic.Lib.Pipeline.ValueKit
public import Idealize.ShloMosaic.Lib.Pipeline.ReadBack

@[expose] public section

set_option maxRecDepth 16384

noncomputable section

namespace ProjTile

open Idealize.ShloMosaic Idealize.ShloMosaic.TcCoe Idealize.SL.Sem
open Cert.ProjIdeal Cert.ProjIdeal.Gen

/-- The factor of a column block: the queries' block is scaled, the others are not. -/
def factor (b : ℕ) : EReal := if b = 4 then Ideal.ofBits FTy.f32 0x3DB504F3#32 else 1

/-- The rounded tokens are the tokens. -/
theorem keep (x : Vec Ideal S1024x2048 .f32) (r : Fin 1024) (e : Fin 2048) : (k0_pay1 x (ix2 r e) : EReal) = x (ix2 r e) := by
  pointwise [k0_pay1]

/-- The gates of a row: its products with the gates' columns. -/
theorem gates (x : Vec Ideal S1024x2048 .bf16) (w : Vec Ideal S2048x128 .bf16) (r : Fin 1024) (g : Fin 128) :
    k0_pay2 x w (ix2 r g) = (∑ e : Fin 2048, x (ix2 r e) * w (ix2 e g) : EReal) := by
  pointwise [k0_pay2]

/-- The factor that a grid point takes. -/
theorem factor_at : ∀ t : Fin cfg0.N, Scalar.cmpi .eq (BitVec.ofNat 32 ((grid0.coords t) 1).val) 4#32 = if (t : ℕ) % 11 = 4 then 1#1 else 0#1 :=
  (by decide +kernel : ∀ t : Fin grid0.N, _)

/-- A column block of a row: its products with the columns, times the block's factor. -/
theorem columns (t : Fin cfg0.N) (x : Vec Ideal S1024x2048 .bf16) (w : Vec Ideal S2048x1024 .bf16) (r : Fin 1024) (k : Fin 1024) :
    k0_pay3 (grid0.coords t) x w (ix2 r k) = ((∑ e : Fin 2048, x (ix2 r e) * w (ix2 e k)) * factor ((t : ℕ) % 11) : EReal) := by
  unfold k0_pay3
  dsimp only
  rw [factor_at]
  unfold factor
  split <;> pointwise

end ProjTile
end
-- ==== Proof.ProjBlock.lean ====
/- The input projection's results, whole: each column block of each block of tokens, and the gates of each block of tokens. -/
module

public import proofs.«01_k».proof.Proof.ProjTile
public import Idealize.ShloMosaic.Lib.Pipeline.ReadBack

@[expose] public section

set_option maxRecDepth 16384

noncomputable section

namespace ProjBlock

open Idealize.ShloMosaic Idealize.ShloMosaic.TcCoe Idealize.SL.Sem
open Cert.ProjIdeal Cert.ProjIdeal.Gen ProjTile ProjRead ProjFrame

/-- An index of a block by its two coordinates. -/
theorem two {n k : ℕ} (y : (⟨2, ![n, k]⟩ : Shape).Idx) (a : Fin n) (d : Fin k) (ha : (y 0 : ℕ) = a) (hd : (y 1 : ℕ) = d) : y = ix2 a d :=
  funext fun z => match z with | ⟨0, _⟩ => Fin.ext ha | ⟨1, _⟩ => Fin.ext hd

/-- Column `u` of token `i`, `p`: its product with the weights' column, times the column block's factor. -/
def column (x : Vec Ideal S8x4096x2048 .f32) (w : Vec Ideal S1x2048x11280 .f32) (i : Fin 8) (p : Fin 4096) (u : Fin 11264) : EReal :=
  (∑ e : Fin 2048, x (ix3 i p e) * w (ix3 0 e (col u))) * factor ((u : ℕ) / 1024)

/-- Gate `g` of token `i`, `p`: its product with the weights' column, and zero after the sixteen gates. -/
def gate (x : Vec Ideal S8x4096x2048 .f32) (w : Vec Ideal S1x2048x11280 .f32) (i : Fin 8) (p : Fin 4096) (g : Fin 128) : EReal :=
  if h : (g : ℕ) < 16 then ∑ e : Fin 2048, x (ix3 i p e) * w (ix3 0 e ⟨7168 + (g : ℕ), by omega⟩) else 0

variable (m : (ℓ : Loc nD τ sig) → Buf (Elt Ideal) ℓ) (c : Dev nD)

/-- A token's batch. -/
abbrev bt (n : Fin 32768) : Fin 8 := ⟨(n : ℕ) / 4096, by omega⟩

/-- A token's place in its batch. -/
abbrev pl (n : Fin 32768) : Fin 4096 := ⟨(n : ℕ) % 4096, by omega⟩

/-- The scratch holds the tokens of the point's block. -/
theorem kept_at (t : Fin cfg0.N) (r : Fin 1024) (e : Fin 2048) (n : Fin 32768) (hn : (n : ℕ) = (t : ℕ) / 11 * 1024 + r) :
    (kept m c t (ix2 r e) : EReal) = xa m c (ix3 (bt n) (pl n) e) :=
  (keep _ r e).trans (x_blk m c (row t) r e n (by simp only [row]; omega))

/-- What a point writes of the columns. -/
theorem z_at (t : Fin cfg0.N) (r k : Fin 1024) (n : Fin 32768) (hn : (n : ℕ) = (t : ℕ) / 11 * 1024 + r)
    (u : Fin 11264) (hu : (u : ℕ) = (t : ℕ) % 11 * 1024 + k) :
    (zAt m c t (ix2 r k) : EReal) = column (xa m c) (wa m c) (bt n) (pl n) u := by
  refine (columns t _ _ r k).trans ?_
  have hq : (t : ℕ) % 11 = (u : ℕ) / 1024 := by omega
  rw [hq]
  refine congrArg (· * factor ((u : ℕ) / 1024)) (Finset.sum_congr rfl fun e _ => ?_)
  exact congr (congrArg HMul.hMul (kept_at m c t r e n hn)) (w_blk m c t e k u hu)

/-- What the gates' buffer holds after a point. -/
theorem gates_at (t : Fin cfg0.N) (r : Fin 1024) (g : Fin 128) (n : Fin 32768) (hn : (n : ℕ) = (t : ℕ) / 11 * 1024 + r) :
    (gatesAt m c t (ix2 r g) : EReal) = gate (xa m c) (wa m c) (bt n) (pl n) g := by
  refine (gates _ _ r g).trans ?_
  unfold gate
  split
  · rename_i hg
    refine Finset.sum_congr rfl fun e _ => congr (congrArg HMul.hMul (kept_at m c t r e n hn)) ?_
    exact (g_blk m c (row t) e g).trans (dif_pos hg)
  · rename_i hg
    refine Finset.sum_eq_zero fun e _ => ?_
    have h := (g_blk m c (row t) e g).trans (dif_neg hg)
    exact (congrArg (fun z : EReal => (kept m c t (ix2 r e) : EReal) * z) h).trans (mul_zero _)

/-- The kernel's columns, whole. -/
theorem final3 : (dats m 0 c).arrAt 3 cfg0.N = fun i : S32768x11264.Idx => column (xa m c) (wa m c) (bt (i 0)) (pl (i 0)) (i 1) := by
  refine (dats m 0 c).arrAt_eq_of_covers 3 _ (by decide +kernel) fun t hf y => ?_
  have ht := lt_of_lt_of_eq t.isLt N_0
  have h0 := (y 0).isLt
  have h1 := (y 1).isLt
  simp at h0 h1
  blk_simp
  rw [after3]
  refine (congrArg (zAt m c t) (two y ⟨_, h0⟩ ⟨_, h1⟩ rfl rfl)).trans ?_
  refine z_at m c t ⟨_, h0⟩ ⟨_, h1⟩ _ ?_ _ ?_
  all_goals (blk_simp [idx_val t])

/-- The kernel's gates, whole. -/
theorem final4 : (dats m 0 c).arrAt 4 cfg0.N = fun i : S32768x128.Idx => gate (xa m c) (wa m c) (bt (i 0)) (pl (i 0)) (i 1) := by
  refine (dats m 0 c).arrAt_eq_of_covers 4 _ (by decide +kernel) fun t hf y => ?_
  have ht := lt_of_lt_of_eq t.isLt N_0
  have h0 := (y 0).isLt
  have h1 := (y 1).isLt
  simp at h0 h1
  blk_simp
  rw [after4]
  refine (congrArg (gatesAt m c t) (two y ⟨_, h0⟩ ⟨_, h1⟩ rfl rfl)).trans ?_
  refine (gates_at m c t ⟨_, h0⟩ ⟨_, h1⟩ _ ?_).trans (congrArg (gate (xa m c) (wa m c) _ _) (Fin.ext ?_))
  all_goals (blk_simp [idx_val t])

end ProjBlock
end
-- ==== Proof.ProjRef.lean ====
/- What the reference of the input projection computes, element by element. -/
module

public import proofs.«01_k».proof.Proof.ProjBlock
public import proofs.«01_k».proof.Proof.Gen.ProjRefIdeal.Run
public import Idealize.ShloMosaic.Lib.Pointwise
public import Idealize.ShloMosaic.Lib.Pipeline.ValueKit

@[expose] public section

set_option maxRecDepth 16384

noncomputable section

namespace ProjRef

open Idealize.ShloMosaic Idealize.ShloMosaic.TcCoe Idealize.SL.Sem
open Cert.ProjRefIdeal Cert.ProjRefIdeal.Gen Cert.ProjRefIdeal.Value
open ProjBlock (column gate bt pl)
open ProjRead (col col_low col_high)
open ProjTile (factor)

variable (x : Vec Ideal S8x4096x2048 .f32) (w : Vec Ideal S1x2048x11280 .f32)

/-- Every token's product with every column of the weights. -/
def prod : FVec Ideal S8x4096x11280 .f32 :=
  Host.dotGeneral (F := Ideal) (φ₁ := .f32) (φ₂ := .f32) dot_S8x4096x2048_S2048x11280_S8x4096x11280_2_0_01_1_n_n none x
    (shapeCast S2048x11280 w shapeCasts_S1x2048x11280_S2048x11280)

/-- The products at an index. -/
theorem prod_at (i : Fin 8) (n : Fin 4096) (l : Fin 11280) : prod x w (ix3 i n l) = (∑ e : Fin 2048, x (ix3 i n e) * w (ix3 0 e l) : EReal) := by
  unfold prod
  pointwise

/-- The pieces that the reference's columns are put together from. -/
def pieces : List ((s : Shape) × (s.Idx → Elt Ideal .f32)) :=
  [⟨S8x4096x2048, (extractStridedSlice S8x4096x2048 ![0, 0, 7184] (prod x w) slices_S8x4096x11280_S8x4096x2048_0_0_7184 : Vec Ideal S8x4096x2048 .f32)⟩,
   ⟨S8x4096x2048, (extractStridedSlice S8x4096x2048 ![0, 0, 9232] (prod x w) slices_S8x4096x11280_S8x4096x2048_0_0_9232 : Vec Ideal S8x4096x2048 .f32)⟩,
   ⟨S8x4096x1024, (mulf (F := Ideal) (φ := .f32) (extractStridedSlice S8x4096x1024 ![0, 0, 0] (prod x w) slices_S8x4096x11280_S8x4096x1024_0_0_0) (broadcastInDim S8x4096x1024 ![] bcast_S_S8x4096x1024 (constant S_ .f32 0x3DB504F3#32)) : Vec Ideal S8x4096x1024 .f32)⟩,
   ⟨S8x4096x1024, (extractStridedSlice S8x4096x1024 ![0, 0, 1024] (prod x w) slices_S8x4096x11280_S8x4096x1024_0_0_1024 : Vec Ideal S8x4096x1024 .f32)⟩,
   ⟨S8x4096x1024, (extractStridedSlice S8x4096x1024 ![0, 0, 2048] (prod x w) slices_S8x4096x11280_S8x4096x1024_0_0_2048 : Vec Ideal S8x4096x1024 .f32)⟩,
   ⟨S8x4096x2048, (extractStridedSlice S8x4096x2048 ![0, 0, 3072] (prod x w) slices_S8x4096x11280_S8x4096x2048_0_0_3072 : Vec Ideal S8x4096x2048 .f32)⟩,
   ⟨S8x4096x1024, (extractStridedSlice S8x4096x1024 ![0, 0, 5120] (prod x w) slices_S8x4096x11280_S8x4096x1024_0_0_5120 : Vec Ideal S8x4096x1024 .f32)⟩,
   ⟨S8x4096x1024, (extractStridedSlice S8x4096x1024 ![0, 0, 6144] (prod x w) slices_S8x4096x11280_S8x4096x1024_0_0_6144 : Vec Ideal S8x4096x1024 .f32)⟩]

/-- The reference's columns. -/
def cols : FVec Ideal S8x4096x11264 .f32 := concatenate S8x4096x11264 2 (pieces x w)
  concatenates_S8x4096x2048_S8x4096x2048_S8x4096x1024_S8x4096x1024_S8x4096x1024_S8x4096x2048_S8x4096x1024_S8x4096x1024_S8x4096x11264_d2

/-- A column that lies in a piece, the pieces before it having `pre` columns. -/
theorem piece (k : ℕ) (hk : k < (pieces x w).length) (v : ℕ) (y : (⟨3, ![8, 4096, v]⟩ : Shape).Idx → Elt Ideal .f32)
    (hy : (pieces x w)[k] = ⟨⟨3, ![8, 4096, v]⟩, y⟩) (pre : ℕ)
    (hp : ((((pieces x w).take k).map (·.1)).map fun s => if h : s.rank = S8x4096x11264.rank then s.size ((2 : Fin S8x4096x11264.rank).cast h.symm) else 0).sum = pre)
    (i : Fin 8) (n : Fin 4096) (u : Fin 11264) (j : Fin v) (hj : (u : ℕ) = pre + j) : cols x w (ix3 i n u) = y (ix3 i n j) := by
  unfold cols
  refine Idealize.ShloMosaic.concatenate_apply_piece (2 : Fin S8x4096x11264.rank) (pieces x w) _ (ix3 i n u) k hk _ y hy rfl pre hp (ix3 i n j) (fun b hb => ?_) hj.symm
  match b with
  | ⟨0, _⟩ => rfl
  | ⟨1, _⟩ => rfl
  | ⟨2, _⟩ => exact absurd rfl hb

variable (i : Fin 8) (n : Fin 4096) (u : Fin 11264)

/-- A column outside the queries' block. -/
theorem plain (l : Fin 11280) (hl : col u = l) (hu : ¬(u : ℕ) / 1024 = 4) : (prod x w (ix3 i n l) : EReal) = column x w i n u := by
  unfold column factor
  rw [if_neg hu, mul_one, hl]
  exact prod_at x w i n l

/-- A column of the queries' block. -/
theorem query (l : Fin 11280) (hl : col u = l) (hu : (u : ℕ) / 1024 = 4) :
    (prod x w (ix3 i n l) * Ideal.ofBits FTy.f32 0x3DB504F3#32 : EReal) = column x w i n u := by
  unfold column factor
  rw [if_pos hu, hl]
  exact congrArg (· * Ideal.ofBits FTy.f32 0x3DB504F3#32) (prod_at x w i n l)

/-- Columns 0 to 2047. -/
theorem col0 (h : 0 ≤ (u : ℕ)) (h' : (u : ℕ) < 2048) : (cols x w (ix3 i n u) : EReal) = column x w i n u := by
  refine (piece x w 0 (by simp [pieces]) 2048 _ rfl 0 (by rfl) i n u ⟨u - 0, by omega⟩ (by simp only; omega)).trans ?_
  refine Eq.trans ?_ (plain x w i n u ⟨7184 + (u - 0), by omega⟩ (col_low u _ (by omega) (by simp only; omega)) (by omega))
  pointwise
  try blk_ext

/-- Columns 2048 to 4095. -/
theorem col1 (h : 2048 ≤ (u : ℕ)) (h' : (u : ℕ) < 4096) : (cols x w (ix3 i n u) : EReal) = column x w i n u := by
  refine (piece x w 1 (by simp [pieces]) 2048 _ rfl 2048 (by rfl) i n u ⟨u - 2048, by omega⟩ (by simp only; omega)).trans ?_
  refine Eq.trans ?_ (plain x w i n u ⟨9232 + (u - 2048), by omega⟩ (col_low u _ (by omega) (by simp only; omega)) (by omega))
  pointwise
  try blk_ext

/-- Columns 4096 to 5119. -/
theorem col2 (h : 4096 ≤ (u : ℕ)) (h' : (u : ℕ) < 5120) : (cols x w (ix3 i n u) : EReal) = column x w i n u := by
  refine (piece x w 2 (by simp [pieces]) 1024 _ rfl 4096 (by rfl) i n u ⟨u - 4096, by omega⟩ (by simp only; omega)).trans ?_
  refine Eq.trans ?_ (query x w i n u ⟨0 + (u - 4096), by omega⟩ (col_high u _ (by omega) (by simp only; omega)) (by omega))
  pointwise
  try blk_ext

/-- Columns 5120 to 6143. -/
theorem col3 (h : 5120 ≤ (u : ℕ)) (h' : (u : ℕ) < 6144) : (cols x w (ix3 i n u) : EReal) = column x w i n u := by
  refine (piece x w 3 (by simp [pieces]) 1024 _ rfl 5120 (by rfl) i n u ⟨u - 5120, by omega⟩ (by simp only; omega)).trans ?_
  refine Eq.trans ?_ (plain x w i n u ⟨1024 + (u - 5120), by omega⟩ (col_high u _ (by omega) (by simp only; omega)) (by omega))
  pointwise
  try blk_ext

/-- Columns 6144 to 7167. -/
theorem col4 (h : 6144 ≤ (u : ℕ)) (h' : (u : ℕ) < 7168) : (cols x w (ix3 i n u) : EReal) = column x w i n u := by
  refine (piece x w 4 (by simp [pieces]) 1024 _ rfl 6144 (by rfl) i n u ⟨u - 6144, by omega⟩ (by simp only; omega)).trans ?_
  refine Eq.trans ?_ (plain x w i n u ⟨2048 + (u - 6144), by omega⟩ (col_high u _ (by omega) (by simp only; omega)) (by omega))
  pointwise
  try blk_ext

/-- Columns 7168 to 9215. -/
theorem col5 (h : 7168 ≤ (u : ℕ)) (h' : (u : ℕ) < 9216) : (cols x w (ix3 i n u) : EReal) = column x w i n u := by
  refine (piece x w 5 (by simp [pieces]) 2048 _ rfl 7168 (by rfl) i n u ⟨u - 7168, by omega⟩ (by simp only; omega)).trans ?_
  refine Eq.trans ?_ (plain x w i n u ⟨3072 + (u - 7168), by omega⟩ (col_high u _ (by omega) (by simp only; omega)) (by omega))
  pointwise
  try blk_ext

/-- Columns 9216 to 10239. -/
theorem col6 (h : 9216 ≤ (u : ℕ)) (h' : (u : ℕ) < 10240) : (cols x w (ix3 i n u) : EReal) = column x w i n u := by
  refine (piece x w 6 (by simp [pieces]) 1024 _ rfl 9216 (by rfl) i n u ⟨u - 9216, by omega⟩ (by simp only; omega)).trans ?_
  refine Eq.trans ?_ (plain x w i n u ⟨5120 + (u - 9216), by omega⟩ (col_high u _ (by omega) (by simp only; omega)) (by omega))
  pointwise
  try blk_ext

/-- Columns 10240 to 11263. -/
theorem col7 (h : 10240 ≤ (u : ℕ)) (h' : (u : ℕ) < 11264) : (cols x w (ix3 i n u) : EReal) = column x w i n u := by
  refine (piece x w 7 (by simp [pieces]) 1024 _ rfl 10240 (by rfl) i n u ⟨u - 10240, by omega⟩ (by simp only; omega)).trans ?_
  refine Eq.trans ?_ (plain x w i n u ⟨6144 + (u - 10240), by omega⟩ (col_high u _ (by omega) (by simp only; omega)) (by omega))
  pointwise
  try blk_ext

/-- The reference's columns at an index. -/
theorem cols_at : (cols x w (ix3 i n u) : EReal) = column x w i n u := by
  by_cases h0 : (u : ℕ) < 2048
  · exact col0 x w i n u (by omega) h0
  by_cases h1 : (u : ℕ) < 4096
  · exact col1 x w i n u (by omega) h1
  by_cases h2 : (u : ℕ) < 5120
  · exact col2 x w i n u (by omega) h2
  by_cases h3 : (u : ℕ) < 6144
  · exact col3 x w i n u (by omega) h3
  by_cases h4 : (u : ℕ) < 7168
  · exact col4 x w i n u (by omega) h4
  by_cases h5 : (u : ℕ) < 9216
  · exact col5 x w i n u (by omega) h5
  by_cases h6 : (u : ℕ) < 10240
  · exact col6 x w i n u (by omega) h6
  exact col7 x w i n u (by omega) (by omega)

/-- The reference's gates, and zeros after them. -/
def gates : FVec Ideal S8x4096x128 .f32 := concatenate S8x4096x128 2
  [⟨S8x4096x16, (extractStridedSlice S8x4096x16 ![0, 0, 7168] (prod x w) slices_S8x4096x11280_S8x4096x16_0_0_7168)⟩,
   ⟨S8x4096x112, (broadcastInDim S8x4096x112 ![] bcast_S_S8x4096x112 (constant (F := Ideal) S_ .f32 0x00000000#32))⟩]
  concatenates_S8x4096x16_S8x4096x112_S8x4096x128_d2

/-- The reference's gates at an index. -/
theorem gates_at (g : Fin 128) : (gates x w (ix3 i n g) : EReal) = gate x w i n g := by
  unfold gate
  by_cases hg : (g : ℕ) < 16
  · rw [dif_pos hg]
    refine Eq.trans ?_ (prod_at x w i n _)
    unfold gates
    pointwise
    rw [dif_pos hg]
    try blk_ext
  · rw [dif_neg hg]
    unfold gates
    pointwise
    rw [dif_neg hg]

/-- The reference's columns, as one list of tokens. -/
theorem ref3 (t : Fin 32768) : (truncf (F := Ideal) (φ := .f32) .bf16 (shapeCast S32768x11264 (cols x w) shapeCasts_S8x4096x11264_S32768x11264) bitsLt_bf16_f32 (ix2 t u) : EReal)
    = column x w (bt t) (pl t) u := by
  refine Eq.trans ?_ (cols_at x w (bt t) (pl t) u)
  pointwise
  try blk_ext

/-- The reference's gates, as one list of tokens. -/
theorem ref4 (t : Fin 32768) (g : Fin 128) : (shapeCast S32768x128 (gates x w) shapeCasts_S8x4096x128_S32768x128 (ix2 t g) : EReal)
    = gate x w (bt t) (pl t) g := by
  refine Eq.trans ?_ (gates_at x w (bt t) (pl t) g)
  pointwise
  try blk_ext

end ProjRef
end
-- ==== Proof.ProjClaim.lean ====
/- The claims about the input projection: its frames, and the kernel's results over the reals are the reference's. -/
module

public import proofs.«01_k».proof.Proof.ProjBlock
public import proofs.«01_k».proof.Proof.ProjRef
public import proofs.«01_k».proof.Proof.Gen.Proj
public import proofs.«01_k».proof.Defs
public import Idealize.ShloMosaic.Lib.Claim

@[expose] public section

set_option maxRecDepth 16384

noncomputable section

open Idealize.ShloMosaic Idealize.ShloMosaic.TcCoe Idealize.SL.Sem

namespace ProjClaim

/-- The projection runs to its end and leaves its arguments and the counters, for any values. -/
theorem frame {F : FTy → Type} [FloatOps F] (m : (ℓ : Loc Cert.ProjIdeal.nD Cert.ProjIdeal.τ Cert.ProjIdeal.sig) → Buf (Elt F) ℓ)
    (ρ : Dev Cert.ProjIdeal.nD → PrngReg) :
    θ_run (Cert.ProjIdeal.defs (F := F)) (onTc (τ := Cert.ProjIdeal.τ) (Cert.ProjIdeal.main (F := F))) ⟨m, fun _ => 0, ρ⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0) :=
  (θ_run Cert.ProjIdeal.defs _ _).mono (fun _ h => ⟨fun c => (h.1 c).2.2, h.2⟩) (ProjFrame.results m ρ)

/-- The projection over the reals. -/
theorem frame_ideal : Cert.quiescent_ProjIdeal (hProjIdeal := Cert.ProjIdeal.Gen.facts) := fun m ρ _ => frame (F := Ideal) m ρ

/-- The program at floats calls the same body as the one over the reals. -/
theorem same_body {F : FTy → Type} [FloatOps F] : Cert.Proj.defs₀ (F := F) = Cert.ProjIdeal.defs₀ (F := F) := by
  unfold Cert.Proj.defs₀ Cert.ProjIdeal.defs₀
  refine congrArg _ (funext fun l => ?_)
  match l with
  | 0 => rfl

/-- It has the same table of bodies. -/
theorem same_defs {F : FTy → Type} [FloatOps F] : Cert.Proj.defs (F := F) = Cert.ProjIdeal.defs (F := F) :=
  congrArg (Pipeline.defs Cert.ProjIdeal.pcfgs) same_body

/-- The projection on bits: the same run, at the machine's values. -/
theorem frame_bits : Cert.quiescent_Proj (hProj := Cert.Proj.Gen.facts) := fun m ρ _ => by
  rw [same_defs]
  exact frame (F := Bits) m ρ

/-- The columns of equal arguments. -/
theorem column_congr {x x' : Vec Ideal Cert.ProjRefIdeal.S8x4096x2048 .f32} {w w' : Vec Ideal Cert.ProjRefIdeal.S1x2048x11280 .f32}
    (ex : x = x') (ew : w = w') (i : Fin 8) (n : Fin 4096) (u : Fin 11264) : ProjBlock.column x w i n u = ProjBlock.column x' w' i n u := by
  subst ex ew
  rfl

/-- The gates of equal arguments. -/
theorem gate_congr {x x' : Vec Ideal Cert.ProjRefIdeal.S8x4096x2048 .f32} {w w' : Vec Ideal Cert.ProjRefIdeal.S1x2048x11280 .f32}
    (ex : x = x') (ew : w = w') (i : Fin 8) (n : Fin 4096) (g : Fin 128) : ProjBlock.gate x w i n g = ProjBlock.gate x' w' i n g := by
  subst ex ew
  rfl

set_option maxHeartbeats 1000000 in
/-- Over the reals the kernel's columns and gates are the reference's. -/
theorem algebraic : Cert.algebraic_ProjIdeal_ProjRefIdeal (hProjIdeal := Cert.ProjIdeal.Gen.facts)
    (hProjRefIdeal := Cert.ProjRefIdeal.Gen.facts) := by
  intro m g m' g' hpre hag
  refine ⟨fun c => (ProjFrame.dats m 0 c).arrAt 3 Cert.ProjIdeal.cfg0.N, fun c => (ProjFrame.dats m 0 c).arrAt 4 Cert.ProjIdeal.cfg0.N,
    (θ_run _ _ _).mono (fun _ h => h.1) (ProjFrame.results m g), ?_⟩
  refine (θ_run _ _ _).mono (fun r h c => ⟨(h c).1.trans ?_, (h c).2.1.trans ?_, (h c).2.2⟩) (Cert.ProjRefIdeal.Value.run m' g')
  · obtain ⟨e0, e1⟩ := hag c
    refine Eq.trans ?_ (ProjBlock.final3 m c).symm
    funext i
    obtain ⟨t, u, rfl⟩ : ∃ (t : Fin 32768) (u : Fin 11264), i = ix2 t u :=
      ⟨i 0, i 1, funext fun z => match z with | ⟨0, _⟩ => rfl | ⟨1, _⟩ => rfl⟩
    exact (ProjRef.ref3 _ _ u t).trans (column_congr e0 e1 _ _ u)
  · obtain ⟨e0, e1⟩ := hag c
    refine Eq.trans ?_ (ProjBlock.final4 m c).symm
    funext i
    obtain ⟨t, u, rfl⟩ : ∃ (t : Fin 32768) (u : Fin 128), i = ix2 t u :=
      ⟨i 0, i 1, funext fun z => match z with | ⟨0, _⟩ => rfl | ⟨1, _⟩ => rfl⟩
    exact (ProjRef.ref4 _ _ t u).trans (gate_congr e0 e1 _ _ u)

end ProjClaim
end
-- ==== Proof.lean ====
module

public import proofs.«01_k».proof.Proof.Gen.NaIdeal.Value
public import proofs.«01_k».proof.Proof.Gen.NaRefIdeal.Run
public import proofs.«01_k».proof.Proof.Gen.FfnIdeal.Value
public import proofs.«01_k».proof.Proof.Gen.FfnRefIdeal.Run
public import proofs.«01_k».proof.Defs
public import proofs.«01_k».proof.Proof.FfnClaim
public import proofs.«01_k».proof.Proof.NaClaim
public import proofs.«01_k».proof.Proof.MergeClaim
public import proofs.«01_k».proof.Proof.ProjClaim
public import proofs.«01_k».proof.Proof.Gen.MergeIdeal.Value
public import proofs.«01_k».proof.Proof.Gen.MergeRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Na
public import proofs.«01_k».proof.Proof.Gen.Na.Skeleton
public import proofs.«01_k».proof.Proof.Gen.Na.Launch
public import proofs.«01_k».proof.Proof.Gen.Na.Points
public import proofs.«01_k».proof.Proof.Gen.Na.Frame
public import proofs.«01_k».proof.Proof.Gen.NaIdeal
public import proofs.«01_k».proof.Proof.Gen.NaIdeal.Skeleton
public import proofs.«01_k».proof.Proof.Gen.NaIdeal.Launch
public import proofs.«01_k».proof.Proof.Gen.NaIdeal.Points
public import proofs.«01_k».proof.Proof.Gen.NaIdeal.Frame
public import proofs.«01_k».proof.Proof.Gen.NaRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.ProjRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjRefIdeal
public import Idealize.ShloMosaic.Adequacy
public import Idealize.ShloMosaic.Init

@[expose] public section

noncomputable section

namespace Cert.Proof

open Idealize.ShloMosaic Idealize.SL.Sem Cert.Na

/-- The reference of the feed-forward block has no semaphores. -/
theorem no_sem : IsEmpty (SemLoc Cert.FfnRefIdeal.sig) := by
  rw [← Fintype.card_eq_zero_iff]
  decide

/-- The reference of the feed-forward block runs to its end and leaves its arguments and the counters. -/
theorem frameRef : Cert.quiescent_FfnRefIdeal (hFfnRefIdeal := Cert.FfnRefIdeal.Gen.facts) := fun m g _ =>
  (θ_run _ _ _).mono (fun _ h => ⟨fun c => (h c).2, funext fun s => no_sem.elim s.2⟩) (Cert.FfnRefIdeal.Value.run m g)

/-- The reference of the merge has no semaphores. -/
theorem no_sem_merge : IsEmpty (SemLoc Cert.MergeRefIdeal.sig) := by
  rw [← Fintype.card_eq_zero_iff]
  decide

/-- The reference of the merge runs to its end and leaves its arguments and the counters. -/
theorem frameRefMerge : Cert.quiescent_MergeRefIdeal (hMergeRefIdeal := Cert.MergeRefIdeal.Gen.facts) := fun m g _ =>
  (θ_run _ _ _).mono (fun _ h => ⟨fun c => (h c).2, funext fun s => no_sem_merge.elim s.2⟩) (Cert.MergeRefIdeal.Value.run m g)

/-- The reference of the input projection has no semaphores. -/
theorem no_sem_proj : IsEmpty (SemLoc Cert.ProjRefIdeal.sig) := by
  rw [← Fintype.card_eq_zero_iff]
  decide

/-- The reference of the input projection runs to its end and leaves its arguments and the counters. -/
theorem frameRefProj : Cert.quiescent_ProjRefIdeal (hProjRefIdeal := Cert.ProjRefIdeal.Gen.facts) := fun m g _ =>
  (θ_run _ _ _).mono (fun _ h => ⟨fun c => (h c).2.2, funext fun s => no_sem_proj.elim s.2⟩) (Cert.ProjRefIdeal.Value.run m g)

/-- Everything the certificate claims. -/
theorem claim : Cert.Claim := ⟨Cert.Na.Gen.facts, Cert.NaIdeal.Gen.facts, Cert.NaRefIdeal.Gen.facts, Cert.Ffn.Gen.facts, Cert.FfnIdeal.Gen.facts, Cert.FfnRefIdeal.Gen.facts,
  Cert.Proj.Gen.facts, Cert.ProjIdeal.Gen.facts, Cert.ProjRefIdeal.Gen.facts,
  Cert.Merge.Gen.facts, Cert.MergeIdeal.Gen.facts, Cert.MergeRefIdeal.Gen.facts, NaClaim.preFacts,
  fun m g _ => Cert.Na.Gen.frame m g,
  fun m g _ => Cert.NaIdeal.Gen.frame m g,
  fun m g _ => Cert.NaIdeal.Gen.frame m g,
  NaClaim.frameRef,
  fun m g _ => NaClaim.frameRef m g trivial,
  fun m g _ => Cert.Ffn.Gen.frame m g,
  fun m g _ => Cert.FfnIdeal.Gen.frame m g,
  frameRef,
  ProjClaim.frame_bits,
  ProjClaim.frame_ideal,
  frameRefProj,
  fun m g _ => Cert.Merge.Gen.frame m g,
  fun m g _ => Cert.MergeIdeal.Gen.frame m g,
  frameRefMerge,
  trivial,
  NaClaim.algebraic,
  trivial,
  FfnClaim.algebraic,
  trivial,
  ProjClaim.algebraic,
  trivial,
  MergeClaim.algebraic⟩

end Cert.Proof

end
